-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pooled_as_drawn [hPre_pooled_as_drawn : Cert.Pre_pooled_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_pooled_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooled_as_drawn [hPre_pooled_as_drawn : Cert.Pre_pooled_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_pooled_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pooled_as_drawn [hKernelIdeal : Cert.KernelIdeal.Facts] [hPre_pooled_as_drawn : Cert.Pre_pooled_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooled_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pooled_as_drawn [hReferenceIdeal : Cert.ReferenceIdeal.Facts] [hPre_pooled_as_drawn : Cert.Pre_pooled_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooled_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_pooled_as_drawn [hKernelIdeal : Cert.KernelIdeal.Facts] [hReferenceIdeal : Cert.ReferenceIdeal.Facts] [hPre_pooled_as_drawn : Cert.Pre_pooled_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooled_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pooled_as_drawn : Cert.Pre_pooled_as_drawn.Facts),
    quiescent_Kernel (hKernel := hKernel)
    ∧ quiescent_KernelIdeal (hKernelIdeal := hKernelIdeal)
    ∧ quiescent_KernelIdeal_pre_pooled_as_drawn (hKernelIdeal := hKernelIdeal) (hPre_pooled_as_drawn := hPre_pooled_as_drawn)
    ∧ quiescent_ReferenceIdeal (hReferenceIdeal := hReferenceIdeal)
    ∧ quiescent_ReferenceIdeal_pre_pooled_as_drawn (hReferenceIdeal := hReferenceIdeal) (hPre_pooled_as_drawn := hPre_pooled_as_drawn)
    ∧ preserves_Kernel_KernelIdeal
    ∧ algebraic_KernelIdeal_ReferenceIdeal_pre_pooled_as_drawn (hKernelIdeal := hKernelIdeal) (hReferenceIdeal := hReferenceIdeal) (hPre_pooled_as_drawn := hPre_pooled_as_drawn)
-- ==== Pre_pooled_as_drawn.lean ====
abbrev S32768x128 : Shape := ⟨2, ![32768, 128]⟩
abbrev S32768 : Shape := ⟨1, ![32768]⟩
abbrev S128x128 : Shape := ⟨2, ![128, 128]⟩
abbrev S128 : Shape := ⟨1, ![128]⟩
abbrev S_ : Shape := ⟨0, ![]⟩
abbrev S32767 : Shape := ⟨1, ![32767]⟩
abbrev S28672 : Shape := ⟨1, ![28672]⟩

class Facts : Prop where
  bcast_S_S32768 : S_.BroadcastsInDim S32768 (![] : Fin 0 → Fin S32768.rank)
  slices_S32768_S32767_0 : S32768.Slices ![0] S32767
  slices_S32768_S32767_1 : S32768.Slices ![1] S32767
  slices_S32768_S28672_0 : S32768.Slices ![0] S28672
  slices_S32768_S28672_4096 : S32768.Slices ![4096] S28672
  bcast_S_S128 : S_.BroadcastsInDim S128 (![] : Fin 0 → Fin S128.rank)

variable [Facts]

def fn {F : FTy → Type} [FloatOps F] (main_arg0 : FVec F S32768x128 .f32) (main_arg1 : IVec S32768 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S32768 1 × IVec S32767 1 × IVec S28672 1 × IVec S128 1 × IVec S128 1 × IVec S128 1 :=
  let main_c : IVec S_ 32 := constantI S_ 32 0#32
  let main_v0 : IVec S32768 32 := broadcastInDim S32768 ![] bcast_S_S32768 main_c
  let main_v1 : IVec S32768 1 := cmpi .sge main_arg1 main_v0
  let main_v2 : IVec S32767 32 := (extractStridedSlice S32767 ![0] · slices_S32768_S32767_0) main_arg1
  let main_v3 : IVec S32767 32 := (extractStridedSlice S32767 ![1] · slices_S32768_S32767_1) main_arg1
  let main_v4 : IVec S32767 1 := cmpi .sle main_v2 main_v3
  let main_v5 : IVec S28672 32 := (extractStridedSlice S28672 ![0] · slices_S32768_S28672_0) main_arg1
  let main_v6 : IVec S28672 32 := (extractStridedSlice S28672 ![4096] · slices_S32768_S28672_4096) main_arg1
  let main_v7 : IVec S28672 1 := cmpi .slt main_v5 main_v6
  let main_cst : FVec F S_ .f32 := constant S_ .f32 0x00000000#32
  let main_v8 : FVec F S128 .f32 := broadcastInDim S128 ![] bcast_S_S128 main_cst
  let main_v9 : IVec S128 1 := cmpf .oeq main_arg3 main_v8
  let main_cst_0 : FVec F S_ .f32 := constant S_ .f32 0x00000000#32
  let main_v10 : FVec F S128 .f32 := broadcastInDim S128 ![] bcast_S_S128 main_cst_0
  let main_v11 : IVec S128 1 := cmpf .oeq main_arg5 main_v10
  let main_cst_1 : FVec F S_ .f32 := constant S_ .f32 0x00000000#32
  let main_v12 : FVec F S128 .f32 := broadcastInDim S128 ![] bcast_S_S128 main_cst_1
  let main_v13 : IVec S128 1 := cmpf .oeq main_arg7 main_v12
  (main_v1, main_v4, main_v7, main_v9, main_v11, main_v13)
-- ==== Kernel.lean ====
abbrev S32768x128 : Shape := ⟨2, ![32768, 128]⟩
abbrev S32768 : Shape := ⟨1, ![32768]⟩
abbrev S128x128 : Shape := ⟨2, ![128, 128]⟩
abbrev S128 : Shape := ⟨1, ![128]⟩
abbrev S8x1x4096 : Shape := ⟨3, ![8, 1, 4096]⟩
abbrev S128x256 : Shape := ⟨2, ![128, 256]⟩
abbrev S16x128 : Shape := ⟨2, ![16, 128]⟩
abbrev S1x1x4096 : Shape := ⟨3, ![1, 1, 4096]⟩
abbrev S4096x128 : Shape := ⟨2, ![4096, 128]⟩
abbrev S16x256 : Shape := ⟨2, ![16, 256]⟩
abbrev S16x1 : Shape := ⟨2, ![16, 1]⟩
abbrev S4096x256 : Shape := ⟨2, ![4096, 256]⟩
abbrev S4096 : Shape := ⟨1, ![4096]⟩
abbrev S1x4096 : Shape := ⟨2, ![1, 4096]⟩
abbrev S16x4096 : Shape := ⟨2, ![16, 4096]⟩
abbrev S16 : Shape := ⟨1, ![16]⟩

abbrev nBuf : Space → Nat
  | .hbm => 15
  | .vmem => 16
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8x1x4096, .i32⟩
  | .hbm, ⟨9, _⟩ => ⟨S128x256, .f32⟩
  | .hbm, ⟨10, _⟩ => ⟨S128x256, .bf16⟩
  | .hbm, ⟨11, _⟩ => ⟨S128x128, .bf16⟩
  | .hbm, ⟨12, _⟩ => ⟨S16x128, .f32⟩
  | .hbm, ⟨13, _⟩ => ⟨S16x128, .f32⟩
  | .hbm, ⟨14, _⟩ => ⟨S16x128, .f32⟩
  | .local _ .vmem, ⟨0, _⟩ => ⟨S1x1x4096, .i32⟩
  | .local _ .vmem, ⟨1, _⟩ => ⟨S1x1x4096, .i32⟩
  | .local _ .vmem, ⟨2, _⟩ => ⟨S1x1x4096, .i32⟩
  | .local _ .vmem, ⟨3, _⟩ => ⟨S1x1x4096, .i32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S128x128, .bf16⟩
  | .local _ .vmem, ⟨9, _⟩ => ⟨S128x256, .bf16⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x256, .f32⟩
  | .local _ .vmem, ⟨15, _⟩ => ⟨S16x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v89 : BitVec 1 := Scalar.cmpi .eq arg0 c3_i32
  let v90 : BitVec 32 := Scalar.extui v89
  let c0_i32_53 : BitVec 32 := 0#32
  let v91 : BitVec 1 := Scalar.cmpi .ne v90 c0_i32_53
  v91

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32768x128 : Shape := ⟨2, ![32768, 128]⟩
abbrev S32768 : Shape := ⟨1, ![32768]⟩
abbrev S128x128 : Shape := ⟨2, ![128, 128]⟩
abbrev S128 : Shape := ⟨1, ![128]⟩
abbrev S1x128 : Shape := ⟨2, ![1, 128]⟩
abbrev S_ : Shape := ⟨0, ![]⟩
abbrev S16 : Shape := ⟨1, ![16]⟩
abbrev S32768x1 : Shape := ⟨2, ![32768, 1]⟩
abbrev S1 : Shape := ⟨1, ![1]⟩
abbrev S15 : Shape := ⟨1, ![15]⟩
abbrev S16x4096x128 : Shape := ⟨3, ![16, 4096, 128]⟩
abbrev S32768x2 : Shape := ⟨2, ![32768, 2]⟩
abbrev S16x4096 : Shape := ⟨2, ![16, 4096]⟩
abbrev S16x1 : Shape := ⟨2, ![16, 1]⟩
abbrev S16x4096x1 : Shape := ⟨3, ![16, 4096, 1]⟩
abbrev S16x128 : Shape := ⟨2, ![16, 128]⟩
abbrev S1x1x128 : Shape := ⟨3, ![1, 1, 128]⟩

abbrev nBuf : Space → Nat
  | .hbm => 129
  | .vmem => 0
  | .smem => 0
  | _ => 0

abbrev hbmTy0_0 (i : Nat) : BufTy := match i % 128 with
  | 0 => ⟨S32768x128, .f32⟩
  | 1 => ⟨S32768, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S32768x128, .f32⟩
  | 9 => ⟨S1x128, .f32⟩
  | 10 => ⟨S32768x128, .f32⟩
  | 11 => ⟨S32768x128, .f32⟩
  | 12 => ⟨S_, .f32⟩
  | 13 => ⟨S32768x128, .f32⟩
  | 14 => ⟨S32768x128, .f32⟩
  | 15 => ⟨S_, .i32⟩
  | 16 => ⟨S16, .i32⟩
  | 17 => ⟨S_, .i32⟩
  | 18 => ⟨S_, .i32⟩
  | 19 => ⟨S32768, .i32⟩
  | 20 => ⟨S32768, .i32⟩
  | 21 => ⟨S_, .i32⟩
  | 22 => ⟨S32768, .i32⟩
  | 23 => ⟨S32768, .i1⟩
  | 24 => ⟨S_, .i32⟩
  | 25 => ⟨S32768, .i32⟩
  | 26 => ⟨S32768, .i32⟩
  | 27 => ⟨S32768, .i32⟩
  | 28 => ⟨S32768x1, .i32⟩
  | 29 => ⟨S_, .i32⟩
  | 30 => ⟨S32768, .i32⟩
  | 31 => ⟨S16, .i32⟩
  | 32 => ⟨S_, .i32⟩
  | 33 => ⟨S1, .i32⟩
  | 34 => ⟨S_, .i32⟩
  | 35 => ⟨S_, .i32⟩
  | 36 => ⟨S16, .i32⟩
  | 37 => ⟨S15, .i32⟩
  | 38 => ⟨S16, .i32⟩
  | 39 => ⟨S32768, .i32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768, .i32⟩
  | 49 => ⟨S32768, .i32⟩
  | 50 => ⟨S_, .f32⟩
  | 51 => ⟨S16x4096x128, .f32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S_, .i32⟩
  | 60 => ⟨S32768, .i32⟩
  | 61 => ⟨S32768, .i1⟩
  | 62 => ⟨S_, .i32⟩
  | 63 => ⟨S32768, .i32⟩
  | 64 => ⟨S32768, .i32⟩
  | 65 => ⟨S32768, .i32⟩
  | 66 => ⟨S32768x1, .i32⟩
  | 67 => ⟨S32768x1, .i32⟩
  | 68 => ⟨S32768x2, .i32⟩
  | 69 => ⟨S16x4096x128, .f32⟩
  | 70 => ⟨S_, .f32⟩
  | 71 => ⟨S16x4096, .f32⟩
  | 72 => ⟨S_, .i32⟩
  | 73 => ⟨S32768, .i32⟩
  | 74 => ⟨S32768, .i1⟩
  | 75 => ⟨S_, .i32⟩
  | 76 => ⟨S32768, .i32⟩
  | 77 => ⟨S32768, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S32768x1, .i32⟩
  | 87 => ⟨S32768x1, .i32⟩
  | 88 => ⟨S32768x2, .i32⟩
  | 89 => ⟨S_, .f32⟩
  | 90 => ⟨S32768, .f32⟩
  | 91 => ⟨S16x4096, .f32⟩
  | 92 => ⟨S_, .f32⟩
  | 93 => ⟨S16, .f32⟩
  | 94 => ⟨S_, .f32⟩
  | 95 => ⟨S16, .f32⟩
  | 96 => ⟨S16, .f32⟩
  | 97 => ⟨S16x1, .f32⟩
  | 98 => ⟨S16x4096x1, .f32⟩
  | 99 => ⟨S16x4096x128, .f32⟩
  | 100 => ⟨S16x4096x128, .f32⟩
  | 101 => ⟨S_, .f32⟩
  | 102 => ⟨S16x128, .f32⟩
  | 103 => ⟨S16x128, .f32⟩
  | 104 => ⟨S16x128, .f32⟩
  | 105 => ⟨S16x4096x128, .f32⟩
  | 106 => ⟨S1x1x128, .f32⟩
  | 107 => ⟨S16x4096x128, .f32⟩
  | 108 => ⟨S16x4096x128, .f32⟩
  | 109 => ⟨S16x4096x128, .f32⟩
  | 110 => ⟨S16x4096x1, .f32⟩
  | 111 => ⟨S16x4096x128, .f32⟩
  | 112 => ⟨S16x4096x128, .f32⟩
  | 113 => ⟨S_, .f32⟩
  | 114 => ⟨S16x128, .f32⟩
  | 115 => ⟨S16x128, .f32⟩
  | 116 => ⟨S16x128, .f32⟩
  | 117 => ⟨S16x4096x128, .f32⟩
  | 118 => ⟨S1x1x128, .f32⟩
  | 119 => ⟨S16x4096x128, .f32⟩
  | 120 => ⟨S16x4096x128, .f32⟩
  | 121 => ⟨S16x4096x128, .f32⟩
  | 122 => ⟨S16x4096x1, .f32⟩
  | 123 => ⟨S16x4096x128, .f32⟩
  | 124 => ⟨S16x4096x128, .f32⟩
  | 125 => ⟨S_, .f32⟩
  | 126 => ⟨S16x128, .f32⟩
  | 127 => ⟨S16x128, .f32⟩
  | _ => ⟨S32768x128, .f32⟩

abbrev hbmTy0_1 (i : Nat) : BufTy := match i % 128 with
  | 0 => ⟨S16x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_call1_call0_c : Ref sig .tc := ⟨.hbm, 34, rfl⟩
abbrev main_call1_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_c_13 : Ref sig .tc := ⟨.hbm, 72, rfl⟩
abbrev main_v45 : Ref sig .tc := ⟨.hbm, 73, rfl⟩
abbrev main_v46 : Ref sig .tc := ⟨.hbm, 74, rfl⟩
abbrev main_c_14 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_15 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_17 : Ref sig .tc := ⟨.hbm, 89, rfl⟩
abbrev main_v58 : Ref sig .tc := ⟨.hbm, 90, rfl⟩
abbrev main_v59 : Ref sig .tc := ⟨.hbm, 91, rfl⟩
abbrev main_cst_18 : Ref sig .tc := ⟨.hbm, 92, rfl⟩
abbrev main_v60 : Ref sig .tc := ⟨.hbm, 93, rfl⟩
abbrev main_cst_19 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_21 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_22 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Proof.Pooling.lean ====
/-
  The mathematics both programs compute, stated over plain functions: rows encoded and put through a head, rows summed
  by segment, and the mean of a segment.

  `hot b w` is the indicator of "the word `w` is the number of segment `b`". `pool s g b` is the sum of `g` over the rows
  of segment `b`, `tally s b` the number of those rows, and `mean s g b` the quotient, the divisor never below one.
-/
module

public import Idealize.ShloMosaic.Lib.Pointwise

@[expose] public section

noncomputable section

namespace Cert.Pooling

open Idealize.ShloMosaic

/-- One when the word is the number of segment `b`, zero otherwise. -/
def hot (b : Fin 16) (w : BitVec 32) : EReal := if w = BitVec.ofNat 32 b.val then 1 else 0

/-- The comparison bit widened and read as a number is the 0/1 indicator. -/
theorem hot_eq (b : Fin 16) (w : BitVec 32) :
    (FloatOps.sitofp (F := Ideal) .f32 (BitVec.setWidth 32 (IntOp.cmpi .eq w (BitVec.ofNat 32 b.val))) : EReal) = hot b w := by
  show (((BitVec.setWidth 32 (IntOp.cmpi .eq w (BitVec.ofNat 32 b.val))).toInt : ℝ) : EReal) = hot b w
  unfold hot IntOp.cmpi
  by_cases h : w = BitVec.ofNat 32 b.val
  · simp [h]
  · have hb : (w == BitVec.ofNat 32 b.val) = false := by simpa using h
    simp [h, hb]

/-- Column `d` of encoded row `n`: the row times the encoder's weights, negative values cut to zero. -/
def enc (x : Fin 32768 → Fin 128 → EReal) (w : Fin 128 → Fin 128 → EReal) (n : Fin 32768) (d : Fin 128) : EReal :=
  max (∑ k : Fin 128, x n k * w k d) 0

/-- Column `d` of row `n` after a head: the hyperbolic tangent of the encoded row times the head's weights. -/
def head (x : Fin 32768 → Fin 128 → EReal) (w v : Fin 128 → Fin 128 → EReal) (n : Fin 32768) (d : Fin 128) : EReal :=
  Ideal.tanh (∑ k : Fin 128, enc x w n k * v k d)

/-- The sum of `g` over the rows of segment `b`. -/
def pool (s : Fin 32768 → BitVec 32) (g : Fin 32768 → EReal) (b : Fin 16) : EReal := ∑ n, hot b (s n) * g n

/-- How many rows segment `b` has. -/
def tally (s : Fin 32768 → BitVec 32) (b : Fin 16) : EReal := ∑ n, hot b (s n)

/-- The mean of `g` over the rows of segment `b`: its sum times the reciprocal of the row count, the count taken as at
    least one. -/
def mean (s : Fin 32768 → BitVec 32) (g : Fin 32768 → EReal) (b : Fin 16) : EReal :=
  pool s g b * Ideal.div 1 (max (tally s b) 1)

/-- All rows, summed as the kernel visits them: at each of four points one block of 4096 rows from the first half and
    the block at the same place of the second half. -/
theorem sum_blocks (g : Fin 32768 → EReal) :
    ∑ n, g n = ∑ p : Fin 4, (∑ r : Fin 4096, g ⟨p.val * 4096 + r.val, by omega⟩ + ∑ r : Fin 4096, g ⟨(4 + p.val) * 4096 + r.val, by omega⟩) := by
  have h8 : ∑ n, g n = ∑ q : Fin (4 + 4), ∑ r : Fin 4096, g ⟨q.val * 4096 + r.val, by omega⟩ := by
    rw [← Fintype.sum_prod_type', ← (finProdFinEquiv (m := 8) (n := 4096)).sum_comp]
    refine Finset.sum_congr rfl fun q _ => congrArg g (Fin.ext ?_)
    show q.2.val + 4096 * q.1.val = q.1.val * 4096 + q.2.val
    omega
  rw [h8, Fin.sum_univ_add, Finset.sum_add_distrib]
  rfl

end Cert.Pooling

end
-- ==== Proof.KernelCases.lean ====
/-
  What each of the three kinds of grid point leaves in the running sums and the result blocks, in terms of the values
  the kernel's body stores: the first point starts from zero blocks, the others from what the point before left, and the
  last also stores the three results.
-/
module

public import proofs.«01_k».proof.Proof.Gen.KernelIdeal.Value
public import Idealize.ShloMosaic.Lib.Pointwise
public import Idealize.ShloMosaic.Lib.Pipeline.ReadBack
public import Idealize.ShloMosaic.Lib.Pipeline.ValueKit.Acc

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]
variable (m : (ℓ : Loc nD τ sig) → Buf (Elt F) ℓ)

/-- The encoder's running sum after a point, from the one before it. -/
abbrev stepK (x0 x1 : Vec F S1x1x4096 .i32) (x2 x3 : Vec F S4096x128 .f32) (x4 : Vec F S128x128 .bf16) (a : Vec F S16x128 .f32) : Vec F S16x128 .f32 :=
  k0_pay1 (k0_pay22 x3 x4 x1 (k0_pay14 x2 x4 x0 a))

/-- The two heads' running sum after a point, from the one before it. -/
abbrev stepH (x0 x1 : Vec F S1x1x4096 .i32) (x2 x3 : Vec F S4096x128 .f32) (x4 : Vec F S128x128 .bf16) (x5 : Vec F S128x256 .bf16) (a : Vec F S16x256 .f32) : Vec F S16x256 .f32 :=
  k0_pay2 (k0_pay19 x3 x4 x5) (k0_pay21 x1) (k0_pay16 (k0_pay15 x2 x4 x5 x0 a))

/-- The running row counts after a point, from the ones before it. -/
abbrev stepC (x0 x1 : Vec F S1x1x4096 .i32) (a : Vec F S16x1 .f32) : Vec F S16x1 .f32 :=
  k0_pay3 (F := F) (k0_pay20 (F := F) x1) (k0_pay17 (k0_pay12 (F := F) x0) a)

/-- The first point leaves in the encoder's running sum one step taken from the zero block. -/
theorem firstK (c : Dev nD) (t : Fin cfg0.N) (h0 : t.val % 4 = 0) :
    (outsAt0 m c t.val t.isLt).2.2.2.1 = stepK (iblk m c 0 t) (iblk m c 1 t) (iblk m c 2 t) (iblk m c 3 t) (iblk m c 4 t) k0_pay8 := by
  rw [outsAt0_A m c t h0 (by omega)]
  frame_out

/-- Every later point leaves in the encoder's running sum one step taken from what the point before left. -/
theorem nextK (c : Dev nD) (n : ℕ) (hn : n + 1 < cfg0.N) (h0 : ¬(n + 1) % 4 = 0) :
    (outsAt0 m c (n + 1) hn).2.2.2.1 = stepK (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.2.2.1 := by
  by_cases h1 : (n + 1) % 4 = 3
  · rw [outsAt0_C m c ⟨n + 1, hn⟩ h0 h1]
    frame_out
    simp only [read_unread_whole]
    rfl
  · rw [outsAt0_B m c ⟨n + 1, hn⟩ h0 h1]
    frame_out
    simp only [read_unread_whole]
    rfl

/-- The first point leaves in the two heads' running sum one step taken from the zero block. -/
theorem firstH (c : Dev nD) (t : Fin cfg0.N) (h0 : t.val % 4 = 0) :
    (outsAt0 m c t.val t.isLt).2.2.2.2.1 = stepH (iblk m c 0 t) (iblk m c 1 t) (iblk m c 2 t) (iblk m c 3 t) (iblk m c 4 t) (iblk m c 5 t) k0_pay9 := by
  rw [outsAt0_A m c t h0 (by omega)]
  frame_out

/-- Every later point leaves in the two heads' running sum one step taken from what the point before left. -/
theorem nextH (c : Dev nD) (n : ℕ) (hn : n + 1 < cfg0.N) (h0 : ¬(n + 1) % 4 = 0) :
    (outsAt0 m c (n + 1) hn).2.2.2.2.1 = stepH (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.2.2.2.1 := by
  by_cases h1 : (n + 1) % 4 = 3
  · rw [outsAt0_C m c ⟨n + 1, hn⟩ h0 h1]
    frame_out
    simp only [read_unread_whole]
    rfl
  · rw [outsAt0_B m c ⟨n + 1, hn⟩ h0 h1]
    frame_out
    simp only [read_unread_whole]
    rfl

/-- The first point leaves in the running row counts one step taken from the zero block. -/
theorem firstC (c : Dev nD) (t : Fin cfg0.N) (h0 : t.val % 4 = 0) :
    (outsAt0 m c t.val t.isLt).2.2.2.2.2 = stepC (iblk m c 0 t) (iblk m c 1 t) (k0_pay10 (F := F)) := by
  rw [outsAt0_A m c t h0 (by omega)]
  frame_out

/-- Every later point leaves in the running row counts one step taken from what the point before left. -/
theorem nextC (c : Dev nD) (n : ℕ) (hn : n + 1 < cfg0.N) (h0 : ¬(n + 1) % 4 = 0) :
    (outsAt0 m c (n + 1) hn).2.2.2.2.2 = stepC (iblk m c 0 ⟨n + 1, hn⟩) (iblk m c 1 ⟨n + 1, hn⟩) (outsAt0 m c n (Nat.lt_of_succ_lt hn)).2.2.2.2.2 := by
  by_cases h1 : (n + 1) % 4 = 3
  · rw [outsAt0_C m c ⟨n + 1, hn⟩ h0 h1]
    frame_out
    simp only [read_unread_whole]
    rfl
  · rw [outsAt0_B m c ⟨n + 1, hn⟩ h0 h1]
    frame_out
    simp only [read_unread_whole]
    rfl

/-- The last point stores the encoder's means: its running sum divided by the row counts. -/
theorem last6 (c : Dev nD) (n : ℕ) (hn : n + 1 < cfg0.N) (h0 : ¬(n + 1) % 4 = 0) (h1 : (n + 1) % 4 = 3) :
    (outsAt0 m c (n + 1) hn).1 = k0_pay5 (outsAt0 m c (n + 1) hn).2.2.2.2.2 (outsAt0 m c (n + 1) hn).2.2.2.1 := by
  rw [outsAt0_C m c ⟨n + 1, hn⟩ h0 h1]
  frame_out

/-- The last point stores the product head's means: columns 0 to 127 of the heads' running sum over the row counts. -/
theorem last7 (c : Dev nD) (n : ℕ) (hn : n + 1 < cfg0.N) (h0 : ¬(n + 1) % 4 = 0) (h1 : (n + 1) % 4 = 3) :
    (outsAt0 m c (n + 1) hn).2.1 = k0_pay6 (outsAt0 m c (n + 1) hn).2.2.2.2.2
      (fun j => (outsAt0 m c (n + 1) hn).2.2.2.2.1 (ix2 (j 0) ⟨(j 1).val, lt_of_lt_of_le (j 1).isLt (by decide)⟩)) := by
  rw [outsAt0_C m c ⟨n + 1, hn⟩ h0 h1]
  frame_out
  refine congrArg (k0_pay6 _) ((View.readCov_fill (s := S16x256) _ _ _ _ _ (by decide)).trans ?_)
  funext j
  pointwise

/-- The last point stores the reactant head's means: columns 128 to 255 of the heads' running sum over the row counts. -/
theorem last8 (c : Dev nD) (n : ℕ) (hn : n + 1 < cfg0.N) (h0 : ¬(n + 1) % 4 = 0) (h1 : (n + 1) % 4 = 3) :
    (outsAt0 m c (n + 1) hn).2.2.1 = k0_pay7 (outsAt0 m c (n + 1) hn).2.2.2.2.2
      (fun j => (outsAt0 m c (n + 1) hn).2.2.2.2.1 (ix2 (j 0) ⟨128 + (j 1).val, Nat.add_lt_add_left (j 1).isLt 128⟩)) := by
  rw [outsAt0_C m c ⟨n + 1, hn⟩ h0 h1]
  frame_out
  refine congrArg (k0_pay7 _) ((View.readCov_fill (s := S16x256) _ _ _ _ _ (by decide)).trans ?_)
  funext j
  pointwise

end Cert.KernelIdeal.Value

end
-- ==== Proof.KernelBlock.lean ====
/-
  What one grid point of the kernel computes, read at one entry over the extended reals.

  A grid point holds two blocks of 4096 rows. For each it encodes the rows (`max (x · W_enc) 0`), puts the encoded rows
  through the two product heads (`tanh (feats · W_cat)`), and adds, for each of the sixteen segments, the rows whose
  segment id is that segment: a product of the 0/1 matrix of `segment id = segment number` with the rows, and its row
  sums. Every theorem here states one of those stored values at an entry.
-/
module

public import proofs.«01_k».proof.Proof.Gen.KernelIdeal.Skeleton
public import proofs.«01_k».proof.Proof.Pooling
public import proofs.«01_k».proof.Proof.KernelCases

@[expose] public section

set_option maxRecDepth 16384

noncomputable section

open Idealize.ShloMosaic Idealize.ShloMosaic.TcCoe Idealize.SL.Sem

namespace Cert.KernelIdeal.Value

open Cert.KernelIdeal Cert.KernelIdeal.Gen Cert.Pooling

/-- An encoded row of a block at column `d`. -/
theorem enc_at (x : FVec Ideal S4096x128 .f32) (w : FVec Ideal S128x128 .bf16) (r : Fin 4096) (d : Fin 128) :
    k0_pay11 (F := Ideal) x w (ix2 r d) = max (∑ k : Fin 128, x (ix2 r k) * w (ix2 k d)) 0 := by
  pointwise [k0_pay11]

/-- The 0/1 matrix of a block's segment ids: row `b` marks the rows of segment `b`. -/
theorem hot_at (s : IVec S1x1x4096 32) (b : Fin 16) (r : Fin 4096) :
    k0_pay13 (F := Ideal) s (ix2 b r) = hot b (s (ix3 0 0 r)) := by
  pointwise [k0_pay13, k0_pay12]
  exact hot_eq b _

/-- The encoder's sum after a block: what it was, plus the block's encoded rows of segment `b`. -/
theorem feats_at (x : FVec Ideal S4096x128 .f32) (w : FVec Ideal S128x128 .bf16) (s : IVec S1x1x4096 32) (a : FVec Ideal S16x128 .f32)
    (b : Fin 16) (d : Fin 128) :
    k0_pay14 (F := Ideal) x w s a (ix2 b d)
      = a (ix2 b d) + ∑ r : Fin 4096, hot b (s (ix3 0 0 r)) * max (∑ k : Fin 128, x (ix2 r k) * w (ix2 k d)) 0 := by
  pointwise [k0_pay14, hot_at, enc_at]

/-- The heads' sum after a block: what it was, plus the block's rows of segment `b` put through the head's column. -/
theorem heads_at (x : FVec Ideal S4096x128 .f32) (w : FVec Ideal S128x128 .bf16) (v : FVec Ideal S128x256 .bf16) (s : IVec S1x1x4096 32)
    (a : FVec Ideal S16x256 .f32) (b : Fin 16) (d : Fin 256) :
    k0_pay15 (F := Ideal) x w v s a (ix2 b d)
      = a (ix2 b d) + ∑ r : Fin 4096, hot b (s (ix3 0 0 r))
          * Ideal.tanh (∑ l : Fin 128, max (∑ k : Fin 128, x (ix2 r k) * w (ix2 k l)) 0 * v (ix2 l d)) := by
  pointwise [k0_pay15, hot_at, enc_at]

/-- The row count after a block: what it was, plus the block's rows of segment `b`. -/
theorem count_at (s : IVec S1x1x4096 32) (a : FVec Ideal S16x1 .f32) (b : Fin 16) :
    k0_pay17 (F := Ideal) (k0_pay12 (F := Ideal) s) a (ix2 b 0) = a (ix2 b 0) + ∑ r : Fin 4096, hot b (s (ix3 0 0 r)) := by
  pointwise [k0_pay17, k0_pay12]
  exact congrArg _ (Finset.sum_congr rfl fun r _ => hot_eq b _)

/-- What a whole point adds to the encoder's sum: the encoded rows of segment `b` of its two blocks. -/
def termK (x0 x1 : IVec S1x1x4096 32) (x2 x3 : FVec Ideal S4096x128 .f32) (w : FVec Ideal S128x128 .bf16) (b : Fin 16) (d : Fin 128) : EReal :=
  ∑ r : Fin 4096, hot b (x0 (ix3 0 0 r)) * max (∑ k : Fin 128, x2 (ix2 r k) * w (ix2 k d)) 0
    + ∑ r : Fin 4096, hot b (x1 (ix3 0 0 r)) * max (∑ k : Fin 128, x3 (ix2 r k) * w (ix2 k d)) 0

/-- What a whole point adds to the heads' sum: the rows of segment `b` of its two blocks, put through the head's column. -/
def termH (x0 x1 : IVec S1x1x4096 32) (x2 x3 : FVec Ideal S4096x128 .f32) (w : FVec Ideal S128x128 .bf16) (v : FVec Ideal S128x256 .bf16)
    (b : Fin 16) (d : Fin 256) : EReal :=
  ∑ r : Fin 4096, hot b (x0 (ix3 0 0 r)) * Ideal.tanh (∑ l : Fin 128, max (∑ k : Fin 128, x2 (ix2 r k) * w (ix2 k l)) 0 * v (ix2 l d))
    + ∑ r : Fin 4096, hot b (x1 (ix3 0 0 r)) * Ideal.tanh (∑ l : Fin 128, max (∑ k : Fin 128, x3 (ix2 r k) * w (ix2 k l)) 0 * v (ix2 l d))

/-- What a whole point adds to the row counts: the rows of segment `b` of its two blocks. -/
def termC (x0 x1 : IVec S1x1x4096 32) (b : Fin 16) : EReal :=
  ∑ r : Fin 4096, hot b (x0 (ix3 0 0 r)) + ∑ r : Fin 4096, hot b (x1 (ix3 0 0 r))

/-- A whole point's step of the encoder's sum. -/
theorem stepK_at (x0 x1 : IVec S1x1x4096 32) (x2 x3 : FVec Ideal S4096x128 .f32) (w : FVec Ideal S128x128 .bf16) (a : FVec Ideal S16x128 .f32)
    (j : S16x128.Idx) : stepK (F := Ideal) x0 x1 x2 x3 w a j = a j + termK x0 x1 x2 x3 w (j 0) (j 1) := by
  idx_vars j
  have h2 : ∀ e, k0_pay1 (F := Ideal) (k0_pay22 (F := Ideal) x3 w x1 e) = k0_pay14 (F := Ideal) x3 w x1 e := fun e => rfl
  unfold stepK
  rw [h2, feats_at, feats_at, add_assoc]
  rfl

/-- A whole point's step of the heads' sum. -/
theorem stepH_at (x0 x1 : IVec S1x1x4096 32) (x2 x3 : FVec Ideal S4096x128 .f32) (w : FVec Ideal S128x128 .bf16) (v : FVec Ideal S128x256 .bf16)
    (a : FVec Ideal S16x256 .f32) (j : S16x256.Idx) :
    stepH (F := Ideal) x0 x1 x2 x3 w v a j = a j + termH x0 x1 x2 x3 w v (j 0) (j 1) := by
  idx_vars j
  have h2 : ∀ e, k0_pay2 (F := Ideal) (k0_pay19 (F := Ideal) x3 w v) (k0_pay21 (F := Ideal) x1) e = k0_pay16 (F := Ideal) (k0_pay15 (F := Ideal) x3 w v x1 e) := fun e => rfl
  have h3 : ∀ e : FVec Ideal S16x256 .f32, k0_pay16 (F := Ideal) e = e := fun e => by
    funext j; pointwise [k0_pay16]
  unfold stepH
  rw [h2, h3, h3, heads_at, heads_at, add_assoc]
  rfl

/-- A whole point's step of the row counts. -/
theorem stepC_at (x0 x1 : IVec S1x1x4096 32) (a : FVec Ideal S16x1 .f32) (j : S16x1.Idx) :
    stepC (F := Ideal) x0 x1 a j = a j + termC x0 x1 (j 0) := by
  idx_vars j
  obtain rfl : j1 = 0 := Subsingleton.elim _ _
  have h2 : ∀ e, k0_pay3 (F := Ideal) (k0_pay20 (F := Ideal) x1) e = k0_pay17 (F := Ideal) (k0_pay12 (F := Ideal) x1) e := fun e => rfl
  unfold stepC
  rw [h2, count_at, count_at, add_assoc]
  rfl

/-- The zero blocks the first point starts from. -/
theorem zeroK_at (j : S16x128.Idx) : k0_pay8 (F := Ideal) j = 0 := by pointwise [k0_pay8]
theorem zeroH_at (j : S16x256.Idx) : k0_pay9 (F := Ideal) j = 0 := by pointwise [k0_pay9]
theorem zeroC_at (j : S16x1.Idx) : k0_pay10 (F := Ideal) j = 0 := by pointwise [k0_pay10]

/-- The three stored results: a sum times the reciprocal of the row count, the count taken as at least one. -/
theorem mean5_at (n : FVec Ideal S16x1 .f32) (a : FVec Ideal S16x128 .f32) (b : Fin 16) (d : Fin 128) :
    k0_pay5 (F := Ideal) n a (ix2 b d) = a (ix2 b d) * Ideal.div 1 (max (n (ix2 b 0)) 1) := by
  pointwise [k0_pay5, k0_pay4]
theorem mean6_at (n : FVec Ideal S16x1 .f32) (a : FVec Ideal S16x128 .f32) (b : Fin 16) (d : Fin 128) :
    k0_pay6 (F := Ideal) n a (ix2 b d) = a (ix2 b d) * Ideal.div 1 (max (n (ix2 b 0)) 1) := by
  pointwise [k0_pay6, k0_pay4]
theorem mean7_at (n : FVec Ideal S16x1 .f32) (a : FVec Ideal S16x128 .f32) (b : Fin 16) (d : Fin 128) :
    k0_pay7 (F := Ideal) n a (ix2 b d) = a (ix2 b d) * Ideal.div 1 (max (n (ix2 b 0)) 1) := by
  pointwise [k0_pay7, k0_pay4]

end Cert.KernelIdeal.Value

end
-- ==== Proof.KernelArrays.lean ====
/-
  What the kernel's three result arrays hold, as functions of the arguments: the means, by segment, of the encoded rows
  and of the rows put through each of the two heads.

  The running sums after the last of the four points are the sums of the four points' terms; a point's blocks are rows of
  the arguments; so the sums run over all the rows.
-/
module

public import proofs.«01_k».proof.Proof.KernelBlock
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Pooling

variable (m : (ℓ : Loc nD τ sig) → Buf (Elt Ideal) ℓ)

/-- Which block of its array each input window reads at a point. -/
theorem idx : ∀ t : Fin cfg0.N, win0_0.index t = ![t.val, 0, 0] ∧ win0_1.index t = ![4 + t.val, 0, 0] ∧ win0_2.index t = ![t.val, 0]
    ∧ win0_3.index t = ![4 + t.val, 0] ∧ win0_4.index t = ![0, 0] ∧ win0_5.index t = ![0, 0] :=
  (by decide +kernel : ∀ t : Fin grid0.N, _)

/-- The segment ids, the rows and the weights as the kernel's arguments hold them. -/
def ids (c : Dev nD) : Fin 32768 → BitVec 32 := fun n => (m ((c : Thread nD τ).loc main_arg1) : S32768.Idx → BitVec 32) (ix1 n)
def rows (c : Dev nD) : Fin 32768 → Fin 128 → EReal := fun n k => (m ((c : Thread nD τ).loc main_arg0) : S32768x128.Idx → EReal) (ix2 n k)
def wEnc (c : Dev nD) : Fin 128 → Fin 128 → EReal := fun k d => (m ((c : Thread nD τ).loc main_arg2) : S128x128.Idx → EReal) (ix2 k d)
def wProd (c : Dev nD) : Fin 128 → Fin 128 → EReal := fun k d => (m ((c : Thread nD τ).loc main_arg4) : S128x128.Idx → EReal) (ix2 k d)
def wReac (c : Dev nD) : Fin 128 → Fin 128 → EReal := fun k d => (m ((c : Thread nD τ).loc main_arg6) : S128x128.Idx → EReal) (ix2 k d)

/-- The host's reshape of the segment ids into eight rows of 4096. -/
theorem reshape_at (v : S32768.Idx → BitVec 32) (q : Fin 8) (r : Fin 4096) :
    shapeCast S8x1x4096 v Gen.facts.shapeCasts_S32768_S8x1x4096 (ix3 q 0 r) = v (ix1 ⟨q.val * 4096 + r.val, by omega⟩) := by
  pointwise

/-- The host's concatenation of the two heads' weights: columns 0 to 127 are the first's, columns 128 to 255 the second's. -/
theorem cat_left (u v : S128x128.Idx → EReal) (k d : Fin 128) :
    concatenate S128x256 1 [⟨S128x128, u⟩, ⟨S128x128, v⟩] Gen.facts.concatenates_S128x128_S128x128_S128x256_d1 (ix2 k ⟨d.val, by omega⟩) = u (ix2 k d) := by
  pointwise

/-- Column `128 + d` of two matrices side by side is the second's column `d`. -/
theorem cat_right (u v : S128x128.Idx → EReal) (k d : Fin 128) :
    concatenate S128x256 1 [⟨S128x128, u⟩, ⟨S128x128, v⟩] Gen.facts.concatenates_S128x128_S128x128_S128x256_d1 (ix2 k ⟨128 + d.val, by omega⟩) = v (ix2 k d) := by
  pointwise

/-- A point's first block of segment ids is rows `4096 t` onwards. -/
theorem blk0 (c : Dev nD) (t : Fin cfg0.N) (ht : t.val < 4) (r : Fin 4096) :
    (iblk m c 0 t : S1x1x4096.Idx → BitVec 32) (ix3 0 0 r) = ids m c ⟨t.val * 4096 + r.val, by omega⟩ := by
  unfold ids
  blk_simp [iblk, idx t]
  entry_read
  have e : ((View.whole main_v0).slice (win0_0.rect t)).emb (ix3 0 0 r) = (ix3 ⟨t.val, by omega⟩ 0 r : S8x1x4096.Idx) := by blk_ext [idx t]
  rw [e]
  exact reshape_at _ ⟨t.val, by omega⟩ r

/-- A point's second block of segment ids is the block at the same place of the second half. -/
theorem blk1 (c : Dev nD) (t : Fin cfg0.N) (ht : t.val < 4) (r : Fin 4096) :
    (iblk m c 1 t : S1x1x4096.Idx → BitVec 32) (ix3 0 0 r) = ids m c ⟨(4 + t.val) * 4096 + r.val, by omega⟩ := by
  unfold ids
  blk_simp [iblk, idx t]
  entry_read
  have e : ((View.whole main_v0).slice (win0_1.rect t)).emb (ix3 0 0 r) = (ix3 ⟨4 + t.val, by omega⟩ 0 r : S8x1x4096.Idx) := by blk_ext [idx t]
  rw [e]
  exact reshape_at _ ⟨4 + t.val, by omega⟩ r

/-- A point's two blocks of rows, likewise. -/
theorem blk2 (c : Dev nD) (t : Fin cfg0.N) (ht : t.val < 4) (r : Fin 4096) (k : Fin 128) :
    (iblk m c 2 t : S4096x128.Idx → EReal) (ix2 r k) = rows m c ⟨t.val * 4096 + r.val, by omega⟩ k := by
  unfold rows
  blk_ext [iblk, V, idx t]

/-- At point `t`, the second half's block of rows holds rows `(4 + t) * 4096` on. -/
theorem blk3 (c : Dev nD) (t : Fin cfg0.N) (ht : t.val < 4) (r : Fin 4096) (k : Fin 128) :
    (iblk m c 3 t : S4096x128.Idx → EReal) (ix2 r k) = rows m c ⟨(4 + t.val) * 4096 + r.val, by omega⟩ k := by
  unfold rows
  blk_ext [iblk, V, idx t]

/-- Every point reads the whole of the encoder's weights. -/
theorem blk4 (c : Dev nD) (t : Fin cfg0.N) (k d : Fin 128) :
    (iblk m c 4 t : S128x128.Idx → EReal) (ix2 k d) = wEnc m c k d := by
  unfold wEnc
  blk_simp [iblk, idx t]
  entry_read
  have e : ((View.whole main_v3).slice (win0_4.rect t)).emb (ix2 k d) = (ix2 k d : S128x128.Idx) := by blk_ext [idx t]
  rw [e]
  rfl

/-- Every point reads the whole of the two heads' weights. -/
theorem blk5 (c : Dev nD) (t : Fin cfg0.N) (k : Fin 128) (j : Fin 256) :
    (iblk m c 5 t : S128x256.Idx → EReal) (ix2 k j)
      = concatenate S128x256 1 [⟨S128x128, (m ((c : Thread nD τ).loc main_arg4) : S128x128.Idx → EReal)⟩,
          ⟨S128x128, (m ((c : Thread nD τ).loc main_arg6) : S128x128.Idx → EReal)⟩] Gen.facts.concatenates_S128x128_S128x128_S128x256_d1 (ix2 k j) := by
  blk_simp [iblk, idx t]
  entry_read
  have e : ((View.whole main_v2).slice (win0_5.rect t)).emb (ix2 k j) = (ix2 k j : S128x256.Idx) := by blk_ext [idx t]
  rw [e]
  rfl

end Cert.KernelIdeal.Value

end
-- ==== Proof.KernelMeans.lean ====
/-
  What the kernel's three result arrays end holding: the means, by segment, of the encoded rows and of the rows put
  through each of the two heads.

  The running sums after the last of the four points are the sums of the four points' terms, and the four points' blocks
  are all the rows; the last point divides by the row counts.
-/
module

public import proofs.«01_k».proof.Proof.KernelArrays

@[expose] public section

set_option maxRecDepth 16384

noncomputable section

open Idealize.ShloMosaic Idealize.ShloMosaic.TcCoe Idealize.SL.Sem

namespace Cert.KernelIdeal.Value

open Cert.KernelIdeal Cert.KernelIdeal.Gen Cert.Pooling

variable (m : (ℓ : Loc nD τ sig) → Buf (Elt Ideal) ℓ)

/-- The grid has four points. -/
theorem four : cfg0.N = 4 := N_0

/-- A point's two terms, summed over the points, are the sum over all rows. -/
theorem sum_points (g : Fin 32768 → EReal) (f : Fin cfg0.N → EReal)
    (h : ∀ t : Fin cfg0.N, (ht : t.val < 4) → f t = ∑ r : Fin 4096, g ⟨t.val * 4096 + r.val, by omega⟩
        + ∑ r : Fin 4096, g ⟨(4 + t.val) * 4096 + r.val, by omega⟩) :
    ∑ t, f t = ∑ n, g n := by
  rw [sum_blocks, ← (finCongr four).sum_comp]
  exact Finset.sum_congr rfl fun t _ => h t (lt_of_lt_of_eq t.isLt four)

/-- The two heads' weights side by side, column by column. -/
def wCat (c : Dev nD) (k : Fin 128) (j : Fin 256) : EReal :=
  concatenate S128x256 1 [⟨S128x128, (m ((c : Thread nD τ).loc main_arg4) : S128x128.Idx → EReal)⟩,
    ⟨S128x128, (m ((c : Thread nD τ).loc main_arg6) : S128x128.Idx → EReal)⟩] Gen.facts.concatenates_S128x128_S128x128_S128x256_d1 (ix2 k j)

/-- A row through the two heads side by side. -/
def headCat (c : Dev nD) (n : Fin 32768) (j : Fin 256) : EReal :=
  Ideal.tanh (∑ l : Fin 128, enc (rows m c) (wEnc m c) n l * wCat m c l j)

/-- Columns 0 to 127 of the weights side by side are the product head's, columns 128 to 255 the reactant head's. -/
theorem wCat_left (c : Dev nD) (k d : Fin 128) : wCat m c k ⟨d.val, by omega⟩ = wProd m c k d := by
  unfold wCat wProd
  exact cat_left _ _ k d

/-- Column `128 + d` of the weights side by side is the reactant head's column `d`. -/
theorem wCat_right (c : Dev nD) (k d : Fin 128) : wCat m c k ⟨128 + d.val, by omega⟩ = wReac m c k d := by
  unfold wCat wReac
  exact cat_right _ _ k d

/-- A point's terms over the arguments. -/
theorem pointK (c : Dev nD) (t : Fin cfg0.N) (ht : t.val < 4) (b : Fin 16) (d : Fin 128) :
    termK (iblk m c 0 t) (iblk m c 1 t) (iblk m c 2 t) (iblk m c 3 t) (iblk m c 4 t) b d
      = ∑ r : Fin 4096, hot b (ids m c ⟨t.val * 4096 + r.val, by omega⟩) * enc (rows m c) (wEnc m c) ⟨t.val * 4096 + r.val, by omega⟩ d
        + ∑ r : Fin 4096, hot b (ids m c ⟨(4 + t.val) * 4096 + r.val, by omega⟩) * enc (rows m c) (wEnc m c) ⟨(4 + t.val) * 4096 + r.val, by omega⟩ d := by
  unfold termK enc
  simp only [blk0 m c t ht, blk1 m c t ht, blk2 m c t ht, blk3 m c t ht, blk4 m c t]

/-- A point's terms of the two heads' sums, over the arguments. -/
theorem pointH (c : Dev nD) (t : Fin cfg0.N) (ht : t.val < 4) (b : Fin 16) (d : Fin 256) :
    termH (iblk m c 0 t) (iblk m c 1 t) (iblk m c 2 t) (iblk m c 3 t) (iblk m c 4 t) (iblk m c 5 t) b d
      = ∑ r : Fin 4096, hot b (ids m c ⟨t.val * 4096 + r.val, by omega⟩) * headCat m c ⟨t.val * 4096 + r.val, by omega⟩ d
        + ∑ r : Fin 4096, hot b (ids m c ⟨(4 + t.val) * 4096 + r.val, by omega⟩) * headCat m c ⟨(4 + t.val) * 4096 + r.val, by omega⟩ d := by
  have h5 : ∀ (k : Fin 128) (j : Fin 256), (iblk m c 5 t : S128x256.Idx → EReal) (ix2 k j) = wCat m c k j := blk5 m c t
  unfold termH headCat enc
  simp only [blk0 m c t ht, blk1 m c t ht, blk2 m c t ht, blk3 m c t ht, blk4 m c t, h5]

/-- A point's terms of the row counts, over the arguments. -/
theorem pointC (c : Dev nD) (t : Fin cfg0.N) (ht : t.val < 4) (b : Fin 16) :
    termC (iblk m c 0 t) (iblk m c 1 t) b
      = ∑ r : Fin 4096, hot b (ids m c ⟨t.val * 4096 + r.val, by omega⟩) + ∑ r : Fin 4096, hot b (ids m c ⟨(4 + t.val) * 4096 + r.val, by omega⟩) := by
  unfold termC
  simp only [blk0 m c t ht, blk1 m c t ht]

/-- The encoder's running sum after the last point. -/
theorem sumK (c : Dev nD) (n : ℕ) (hn : n < cfg0.N) (he : n + 1 = cfg0.N) (b : Fin 16) (d : Fin 128) :
    ((outsAt0 m c n hn).2.2.2.1 : S16x128.Idx → EReal) (ix2 b d) = pool (ids m c) (fun n => enc (rows m c) (wEnc m c) n d) b := by
  have hN := four
  refine (Pipeline.eq_sum_fin_of_reset_step_apply_last (ι := S16x128.Idx) (M := EReal)
    (fun n h => ((outsAt0 m c n h).2.2.2.1 : S16x128.Idx → EReal)) 4 (fun _ => 0)
    (fun t j => termK (iblk m c 0 t) (iblk m c 1 t) (iblk m c 2 t) (iblk m c 3 t) (iblk m c 4 t) (j 0) (j 1))
    (fun t h i => ?_) (fun t h i => ?_) (by omega) ⟨n, hn⟩ he (ix2 b d)).trans ?_
  · exact (congrFun (firstK m c t h) i).trans ((stepK_at _ _ _ _ _ _ i).trans (congrArg (· + _) (zeroK_at i)))
  · obtain ⟨n, hn⟩ := t
    cases n with
    | zero => exact absurd rfl h
    | succ n => exact (congrFun (nextK m c n hn h) i).trans (stepK_at _ _ _ _ _ _ i)
  · rw [zero_add]
    exact sum_points (fun n => hot b (ids m c n) * enc (rows m c) (wEnc m c) n d) _ fun t ht => pointK m c t ht b d

/-- The heads' running sum after the last point. -/
theorem sumH (c : Dev nD) (n : ℕ) (hn : n < cfg0.N) (he : n + 1 = cfg0.N) (b : Fin 16) (d : Fin 256) :
    ((outsAt0 m c n hn).2.2.2.2.1 : S16x256.Idx → EReal) (ix2 b d) = pool (ids m c) (fun n => headCat m c n d) b := by
  have hN := four
  refine (Pipeline.eq_sum_fin_of_reset_step_apply_last (ι := S16x256.Idx) (M := EReal)
    (fun n h => ((outsAt0 m c n h).2.2.2.2.1 : S16x256.Idx → EReal)) 4 (fun _ => 0)
    (fun t j => termH (iblk m c 0 t) (iblk m c 1 t) (iblk m c 2 t) (iblk m c 3 t) (iblk m c 4 t) (iblk m c 5 t) (j 0) (j 1))
    (fun t h i => ?_) (fun t h i => ?_) (by omega) ⟨n, hn⟩ he (ix2 b d)).trans ?_
  · exact (congrFun (firstH m c t h) i).trans ((stepH_at _ _ _ _ _ _ _ i).trans (congrArg (· + _) (zeroH_at i)))
  · obtain ⟨n, hn⟩ := t
    cases n with
    | zero => exact absurd rfl h
    | succ n => exact (congrFun (nextH m c n hn h) i).trans (stepH_at _ _ _ _ _ _ _ i)
  · rw [zero_add]
    exact sum_points (fun n => hot b (ids m c n) * headCat m c n d) _ fun t ht => pointH m c t ht b d

/-- The row counts after the last point. -/
theorem sumC (c : Dev nD) (n : ℕ) (hn : n < cfg0.N) (he : n + 1 = cfg0.N) (b : Fin 16) :
    ((outsAt0 m c n hn).2.2.2.2.2 : S16x1.Idx → EReal) (ix2 b 0) = tally (ids m c) b := by
  have hN := four
  refine (Pipeline.eq_sum_fin_of_reset_step_apply_last (ι := S16x1.Idx) (M := EReal)
    (fun n h => ((outsAt0 m c n h).2.2.2.2.2 : S16x1.Idx → EReal)) 4 (fun _ => 0)
    (fun t j => termC (iblk m c 0 t) (iblk m c 1 t) (j 0))
    (fun t h i => ?_) (fun t h i => ?_) (by omega) ⟨n, hn⟩ he (ix2 b 0)).trans ?_
  · exact (congrFun (firstC m c t h) i).trans ((stepC_at _ _ _ i).trans (congrArg (· + _) (zeroC_at i)))
  · obtain ⟨n, hn⟩ := t
    cases n with
    | zero => exact absurd rfl h
    | succ n => exact (congrFun (nextC m c n hn h) i).trans (stepC_at _ _ _ i)
  · rw [zero_add]
    exact sum_points (fun n => hot b (ids m c n)) _ fun t ht => pointC m c t ht b

/-- The last point is point 3. -/
theorem last : 2 + 1 < cfg0.N := lt_of_lt_of_eq (by decide) four.symm

/-- The first result: the means of the encoded rows. -/
theorem result6 (c : Dev nD) (b : Fin 16) (d : Fin 128) :
    (G6 m c : S16x128.Idx → EReal) (ix2 b d) = mean (ids m c) (fun n => enc (rows m c) (wEnc m c) n d) b := by
  rw [G6_last m c, ← outsAt0_sweep m c 3 last, last6 m c 2 last (by decide) (by decide), mean5_at,
    sumK m c (2 + 1) last four.symm b d, sumC m c (2 + 1) last four.symm b]
  rfl

/-- The second result: the means of the rows put through the product head. -/
theorem result7 (c : Dev nD) (b : Fin 16) (d : Fin 128) :
    (G7 m c : S16x128.Idx → EReal) (ix2 b d) = mean (ids m c) (fun n => head (rows m c) (wEnc m c) (wProd m c) n d) b := by
  have e : ∀ n, headCat m c n ⟨d.val, by omega⟩ = head (rows m c) (wEnc m c) (wProd m c) n d := fun n =>
    congrArg Ideal.tanh (Finset.sum_congr rfl fun l _ => congrArg (enc (rows m c) (wEnc m c) n l * ·) (wCat_left m c l d))
  rw [G7_last m c, ← outsAt0_sweep m c 3 last, last7 m c 2 last (by decide) (by decide), mean6_at,
    sumC m c (2 + 1) last four.symm b]
  have hs := sumH m c (2 + 1) last four.symm b ⟨d.val, by omega⟩
  simp only [e] at hs
  unfold mean
  exact congrArg (· * Ideal.div 1 (max (tally (ids m c) b) 1)) hs

/-- The third result: the means of the rows put through the reactant head. -/
theorem result8 (c : Dev nD) (b : Fin 16) (d : Fin 128) :
    (G8 m c : S16x128.Idx → EReal) (ix2 b d) = mean (ids m c) (fun n => head (rows m c) (wEnc m c) (wReac m c) n d) b := by
  have e : ∀ n, headCat m c n ⟨128 + d.val, by omega⟩ = head (rows m c) (wEnc m c) (wReac m c) n d := fun n =>
    congrArg Ideal.tanh (Finset.sum_congr rfl fun l _ => congrArg (enc (rows m c) (wEnc m c) n l * ·) (wCat_right m c l d))
  rw [G8_last m c, ← outsAt0_sweep m c 3 last, last8 m c 2 last (by decide) (by decide), mean7_at,
    sumC m c (2 + 1) last four.symm b]
  have hs := sumH m c (2 + 1) last four.symm b ⟨128 + d.val, by omega⟩
  simp only [e] at hs
  unfold mean
  exact congrArg (· * Ideal.div 1 (max (tally (ids m c) b) 1)) hs

end Cert.KernelIdeal.Value

end
-- ==== Proof.Segments.lean ====
/-
  Rows drawn in order of their segment ids, at most 4096 to a segment: counting facts.

  `Drawn s` says the ids are nonnegative, never decrease, and differ between rows 4096 apart. From it: the number of rows
  of smaller id (`below`) is at most a row's own number and within 4096 of it, so every row has a place (`place`) in its
  segment, and a row is determined by its segment and its place. A sum over a segment's 4096 places, zero where no row
  sits, is then the sum over the segment's rows.
-/
module

public import proofs.«01_k».proof.Proof.Pooling

@[expose] public section

noncomputable section

namespace Cert.Pooling

open Idealize.ShloMosaic

/-- The ids are nonnegative as signed words, never decrease, and strictly increase over any 4096 rows. -/
structure Drawn (s : Fin 32768 → BitVec 32) : Prop where
  small : ∀ n, (s n).toNat < 2 ^ 31
  mono : ∀ (i : ℕ) (h : i + 1 < 32768), (s ⟨i, by omega⟩).toNat ≤ (s ⟨i + 1, h⟩).toNat
  gap : ∀ (i : ℕ) (h : i + 4096 < 32768), (s ⟨i, by omega⟩).toNat < (s ⟨i + 4096, h⟩).toNat

/-- How many rows have an id below `b`. -/
def below (s : Fin 32768 → BitVec 32) (b : ℕ) : ℕ := (Finset.univ.filter fun n => (s n).toNat < b).card

variable {s : Fin 32768 → BitVec 32}

/-- The ids never decrease, between any two rows. -/
theorem Drawn.le (hs : Drawn s) {i j : Fin 32768} (h : i ≤ j) : (s i).toNat ≤ (s j).toNat := by
  obtain ⟨i, hi⟩ := i
  obtain ⟨j, hj⟩ := j
  have h' : i ≤ j := h
  clear h
  induction j, h' using Nat.le_induction with
  | base => exact le_refl _
  | succ j hij ih => exact (ih (by omega)).trans (hs.mono j hj)

/-- The rows of smaller id all come before a row. -/
theorem Drawn.below_le (hs : Drawn s) (n : Fin 32768) : below s (s n).toNat ≤ n.val := by
  have : (Finset.univ.filter fun m => (s m).toNat < (s n).toNat) ⊆ Finset.univ.filter fun m : Fin 32768 => m < n := by
    intro m hm
    simp only [Finset.mem_filter, Finset.mem_univ, true_and] at hm ⊢
    by_contra hc
    exact absurd (hs.le (not_lt.mp hc)) (by omega)
  refine (Finset.card_le_card this).trans ?_
  rw [Finset.filter_gt_eq_Iio, Fin.card_Iio]

/-- A row is fewer than 4096 rows into its segment. -/
theorem Drawn.place_lt (hs : Drawn s) (n : Fin 32768) : n.val - below s (s n).toNat < 4096 := by
  by_cases hn : n.val < 4096
  · omega
  · have hlt : (s ⟨n.val - 4096, by omega⟩).toNat < (s n).toNat := by
      have := hs.gap (n.val - 4096) (by omega)
      have e : (⟨n.val - 4096 + 4096, by omega⟩ : Fin 32768) = n := Fin.ext (by show n.val - 4096 + 4096 = n.val; omega)
      rwa [e] at this
    have hsub : (Finset.univ.filter fun m : Fin 32768 => m ≤ ⟨n.val - 4096, by omega⟩) ⊆ Finset.univ.filter fun m => (s m).toNat < (s n).toNat := by
      intro m hm
      simp only [Finset.mem_filter, Finset.mem_univ, true_and] at hm ⊢
      exact lt_of_le_of_lt (hs.le hm) hlt
    have hc := Finset.card_le_card hsub
    rw [Finset.filter_ge_eq_Iic, Fin.card_Iic] at hc
    have : n.val - 4096 + 1 ≤ below s (s n).toNat := hc
    omega

/-- A row's place in its segment. -/
def place (s : Fin 32768 → BitVec 32) (n : Fin 32768) : ℕ := n.val - below s (s n).toNat

/-- A row's place as one of the segment's 4096. -/
def Drawn.seat (hs : Drawn s) (n : Fin 32768) : Fin 4096 := ⟨place s n, hs.place_lt n⟩

/-- The seat, as a number, is the place. -/
theorem Drawn.seat_val (hs : Drawn s) (n : Fin 32768) : (hs.seat n).val = place s n := by
  unfold Drawn.seat
  rfl

/-- A row is determined by its segment and its place there. -/
theorem Drawn.place_inj (hs : Drawn s) {n n' : Fin 32768} (h : (s n).toNat = (s n').toNat) (hp : place s n = place s n') : n = n' := by
  have h1 := hs.below_le n
  have h2 := hs.below_le n'
  unfold place at hp
  rw [h] at h1 hp
  exact Fin.ext (by omega)

/-- A word is the number of segment `b` when its value is. -/
theorem eq_ofNat_iff (w : BitVec 32) (b : Fin 16) : w = BitVec.ofNat 32 b.val ↔ w.toNat = b.val := by
  constructor
  · rintro rfl
    rw [BitVec.toNat_ofNat]
    omega
  · intro h
    apply BitVec.eq_of_toNat_eq
    rw [BitVec.toNat_ofNat, h]
    omega

/-- A segment's sum over its rows. -/
theorem pool_eq (s : Fin 32768 → BitVec 32) (g : Fin 32768 → EReal) (b : Fin 16) :
    pool s g b = ∑ n ∈ Finset.univ.filter (fun n => (s n).toNat = b.val), g n := by
  unfold pool
  rw [Finset.sum_filter]
  refine Finset.sum_congr rfl fun n _ => ?_
  unfold hot
  by_cases h : (s n).toNat = b.val
  · rw [if_pos h, if_pos ((eq_ofNat_iff _ b).mpr h), one_mul]
  · rw [if_neg h, if_neg (fun e => h ((eq_ofNat_iff _ b).mp e)), zero_mul]

/-- A segment's count is its sum of ones. -/
theorem tally_eq (s : Fin 32768 → BitVec 32) (b : Fin 16) : tally s b = pool s (fun _ => 1) b := by
  unfold tally pool
  simp only [mul_one]

/-- THE RE-INDEXING: a sum over a segment's 4096 places, of something that is `g n` at the place of each of the segment's
    rows `n` and zero where no row sits, is the sum of `g` over the segment's rows. -/
theorem Drawn.sum_places (hs : Drawn s) (g : Fin 32768 → EReal) (b : Fin 16) (f : Fin 4096 → EReal)
    (hit : ∀ (n : Fin 32768) (p : Fin 4096), (s n).toNat = b.val → place s n = p.val → f p = g n)
    (miss : ∀ p : Fin 4096, (∀ n : Fin 32768, (s n).toNat = b.val → place s n ≠ p.val) → f p = 0) :
    ∑ p, f p = pool s g b := by
  rw [pool_eq]
  have inj : ∀ n ∈ Finset.univ.filter (fun n => (s n).toNat = b.val), ∀ n' ∈ Finset.univ.filter (fun n => (s n).toNat = b.val),
      hs.seat n = hs.seat n' → n = n' := fun n hn n' hn' h => by
    have h' := congrArg Fin.val h
    rw [hs.seat_val, hs.seat_val] at h'
    exact hs.place_inj ((Finset.mem_filter.mp hn).2.trans (Finset.mem_filter.mp hn').2.symm) h'
  have heq : ∀ n ∈ Finset.univ.filter (fun n => (s n).toNat = b.val), g n = f (hs.seat n) := fun n hn =>
    (hit n (hs.seat n) (Finset.mem_filter.mp hn).2 (hs.seat_val n).symm).symm
  rw [Finset.sum_congr rfl heq, ← Finset.sum_image inj]
  symm
  refine Finset.sum_subset (Finset.subset_univ _) fun p _ hp => miss p fun n hn hc => hp ?_
  exact Finset.mem_image.mpr ⟨n, Finset.mem_filter.mpr ⟨Finset.mem_univ _, hn⟩, Fin.ext ((hs.seat_val n).trans hc)⟩

end Cert.Pooling

end
-- ==== Proof.RefPlaces.lean ====
/-
  Where the reference puts each row: the integer part of the reference, read at an entry.

  The reference counts the rows of each segment, adds the counts up to find where each segment starts, and takes a row's
  place in its segment as its own number less its segment's start. Over ids drawn as `Drawn` says, these are exactly the
  counts, the starts (`below`) and the places (`place`) of the counting facts.
-/
module

public import proofs.«01_k».proof.Proof.Segments
public import proofs.«01_k».proof.Proof.Gen.ReferenceIdeal.Read
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Pooling

/-- The two ways of writing a vector's index. -/
theorem ix1_eq {N : ℕ} (n : Fin N) : (ValueIdx.ix1 n : (⟨1, ![N]⟩ : Shape).Idx) = ix1 n := by
  funext a
  match a with
  | ⟨0, _⟩ => rfl

/-- The two ways of writing a matrix's index. -/
theorem ix2_eq {A B : ℕ} (a : Fin A) (b : Fin B) : (ValueIdx.ix2 a b : (⟨2, ![A, B]⟩ : Shape).Idx) = ix2 a b := by
  funext q
  match q with
  | ⟨0, _⟩ => rfl
  | ⟨1, _⟩ => rfl

/-- Every index of a vector is a position. -/
theorem ex_ix1 {N : ℕ} (k : (⟨1, ![N]⟩ : Shape).Idx) : ∃ n : Fin N, k = ix1 n := by
  refine ⟨k 0, funext fun a => ?_⟩
  match a with
  | ⟨0, _⟩ => rfl

/-- Every index of a matrix is a row and a column. -/
theorem ex_ix2 {A B : ℕ} (k : (⟨2, ![A, B]⟩ : Shape).Idx) : ∃ (a : Fin A) (b : Fin B), k = ix2 a b := by
  refine ⟨k 0, k 1, funext fun a => ?_⟩
  match a with
  | ⟨0, _⟩ => rfl
  | ⟨1, _⟩ => rfl

/-- A nonnegative word is not moved by the wrap of negative indices. -/
theorem wrap_id (a w : BitVec 32) (h : w.toNat < 2 ^ 31) : Scalar.select (IntOp.cmpi .slt w 0#32) a w = w :=
  Routing.wrap_of_lt w a h

/-- Nor by the cut at zero. -/
theorem clip_id (w : BitVec 32) (h : w.toNat < 2 ^ 31) : IntOp.maxsi 0#32 w = w := by
  have h1 : w.toInt = w.toNat := by rw [BitVec.toInt_eq_toNat_cond]; omega
  unfold IntOp.maxsi
  rw [if_neg]
  intro hc
  rw [BitVec.slt, decide_eq_true_iff, h1] at hc
  have : (0#32 : BitVec 32).toInt = 0 := by decide
  omega

/-- The signed reading of a nonnegative word. -/
theorem toInt_small (w : BitVec 32) (h : w.toNat < 2 ^ 31) : w.toInt = (w.toNat : ℤ) := by
  rw [BitVec.toInt_eq_toNat_cond]
  omega

/-- Counting over a list of all positions is the size of the set. -/
theorem count_hits {N M : ℕ} (e : N = M) (P : Fin M → Prop) [DecidablePred P] :
    (List.finRange N).countP (fun n => decide (P (n.cast e))) = (Finset.univ.filter P).card := by
  subst e
  rw [List.countP_eq_length_filter, ← List.toFinset_card_of_nodup ((List.nodup_finRange N).filter _)]
  congr 1
  ext n
  simp

variable (x1 : IVec S32768 32)

/-- The ids, one by one. -/
abbrev seg (n : Fin 32768) : BitVec 32 := x1 (ix1 n)

/-- The index the histogram counts row `n` at is its id. -/
theorem countIdx (hs : Drawn (seg x1)) (n : Fin 32768) : val_main_v13 (F := Ideal) x1 (ix2 n 0) = seg x1 n := by
  have h := hs.small n
  have hc : IntOp.maxsi (0#32) (x1 (ix1 n)) = x1 (ix1 n) := clip_id _ h
  pointwise [val_main_v13, val_main_v12, val_main_v9, val_main_v11, val_main_v7, val_main_v8, val_main_v10, val_main_call0_v1, val_main_call0_v0, val_main_c_0, val_main_c_1, val_main_c_2, id_eq]
  rw [hc]
  exact wrap_id _ _ h

/-- The index the starts are looked up at for row `n` is its id. -/
theorem lookIdx (hs : Drawn (seg x1)) (n : Fin 32768) : val_main_v26 (F := Ideal) x1 (ix2 n 0) = seg x1 n := by
  pointwise [val_main_v26, val_main_v25, val_main_v22, val_main_v24, val_main_v21, val_main_v23, val_main_c_5, val_main_c_6]
  exact wrap_id _ _ (hs.small n)

/-- The first index of the pair row `n` is placed at is its id. -/
theorem rowIdx (hs : Drawn (seg x1)) (n : Fin 32768) : val_main_v42 (F := Ideal) x1 (ix2 n 0) = seg x1 n := by
  pointwise [val_main_v42, val_main_v40, val_main_v34, val_main_v31, val_main_v33, val_main_v30, val_main_v32, val_main_c_8, val_main_c_9]
  exact wrap_id _ _ (hs.small n)

/-- The pairs the marks are placed at are the pairs the rows are placed at. -/
theorem pair_eq (n : Fin 32768) (q : Fin 2) : val_main_v57 (F := Ideal) x1 (ix2 n q) = val_main_v42 (F := Ideal) x1 (ix2 n q) := by
  pointwise [val_main_v57, val_main_v55, val_main_v49, val_main_v46, val_main_v48, val_main_v45, val_main_v47, val_main_c_13, val_main_c_14,
    val_main_v56, val_main_v54, val_main_v51, val_main_v53, val_main_v50, val_main_v52, val_main_c_15, val_main_c_16,
    val_main_v42, val_main_v40, val_main_v34, val_main_v31, val_main_v33, val_main_v30, val_main_v32, val_main_c_8, val_main_c_9,
    val_main_v41, val_main_v39, val_main_v36, val_main_v38, val_main_v35, val_main_v37, val_main_c_10, val_main_c_11]

/-! ## The counts, the starts, the places -/

/-- Row `n` is counted at segment `b` when its id is `b`. -/
theorem count_lands (hs : Drawn (seg x1)) (n : Fin 32768) (b : Fin 16) :
    scatter_S16_S32768x1_S32768_n_0_0_1.resultIdx? (ix1 n) (val_main_v13 (F := Ideal) x1) = some (ix1 b) ↔ (seg x1 n).toNat = b.val := by
  have hst : scatter_S16_S32768x1_S32768_n_0_0_1.start (ix1 n) (val_main_v13 (F := Ideal) x1) 0 = (seg x1 n).toInt := by
    rw [← countIdx x1 hs n]
    unfold ScatterDims.start
    rw [dif_pos (by decide)]
    refine congrArg (fun i => (val_main_v13 (F := Ideal) x1 i).toInt) (funext fun a => Fin.ext ?_)
    match a with
    | ⟨0, _⟩ => rfl
    | ⟨1, _⟩ => rfl
  have hw : scatter_S16_S32768x1_S32768_n_0_0_1.window (ix1 n) 0 = 0 := by
    unfold ScatterDims.window
    rw [dif_neg (by decide)]
  rw [← ix1_eq b, Routing.resultIdx?_ix1, hst, hw, toInt_small _ (hs.small n)]
  omega

/-- How many rows have the id `b`. -/
def inSeg (s : Fin 32768 → BitVec 32) (b : ℕ) : ℕ := (Finset.univ.filter fun n => (s n).toNat = b).card

/-- The histogram holds each segment's number of rows. -/
theorem counts (hs : Drawn (seg x1)) (b : Fin 16) : val_main_v15 (F := Ideal) x1 (ix1 b) = BitVec.ofNat 32 (inSeg (seg x1) b.val) := by
  have h0 : val_main_v6 (F := Ideal) (ix1 b) = BitVec.ofNat 32 0 := rfl
  have h1 : ∀ k, val_main_v14 (F := Ideal) k = 1#32 := fun k => rfl
  unfold val_main_v15 Host.scatter
  refine (Routing.foldl_count _ (ix1 b) (fun n => decide ((seg x1 (n.cast (Routing.numel1 32768))).toNat = b.val)) (fun r n => ?_) _ _ 0 h0).trans ?_
  · have hl := count_lands x1 hs (n.cast (Routing.numel1 32768)) b
    have hn : S32768.rowMajor.symm n = ix1 (n.cast (Routing.numel1 32768)) := (Routing.symm1 n).trans (ix1_eq _)
    rw [hn]
    generalize scatter_S16_S32768x1_S32768_n_0_0_1.resultIdx? (ix1 (n.cast (Routing.numel1 32768))) (val_main_v13 (F := Ideal) x1) = o at hl ⊢
    match o with
    | none =>
      dsimp only
      rw [if_neg]
      intro e
      exact absurd (hl.2 (of_decide_eq_true e)) (by simp)
    | some k =>
      dsimp only
      by_cases e : (seg x1 (n.cast (Routing.numel1 32768))).toNat = b.val
      · rw [← Option.some.inj (hl.2 e), if_pos (decide_eq_true e)]
        simp only [if_true, h1]
      · rw [if_neg (fun q => e (of_decide_eq_true q)), if_neg (fun q => e (hl.1 (congrArg some q.symm)))]
  · rw [Nat.zero_add, count_hits (Routing.numel1 32768) (fun n => (seg x1 n).toNat = b.val)]
    rfl

/-- The rows below `b + 1` are those below `b` and those of `b`. -/
theorem below_succ (s : Fin 32768 → BitVec 32) (b : ℕ) : below s (b + 1) = below s b + inSeg s b := by
  unfold below inSeg
  have hu : (Finset.univ.filter fun n => (s n).toNat < b + 1) = (Finset.univ.filter fun n => (s n).toNat < b) ∪ (Finset.univ.filter fun n => (s n).toNat = b) := by
    ext n
    simp only [Finset.mem_filter, Finset.mem_univ, true_and, Finset.mem_union]
    omega
  rw [hu, Finset.card_union_of_disjoint]
  · rw [Finset.disjoint_left]
    intro n
    simp only [Finset.mem_filter, Finset.mem_univ, true_and]
    omega

/-- No row has an id below zero. -/
theorem below_zero (s : Fin 32768 → BitVec 32) : below s 0 = 0 := by
  unfold below
  rw [Finset.card_eq_zero, Finset.filter_eq_empty_iff]
  intro n _
  omega

/-- The counts of the segments before `b` add up to the number of rows below `b`. -/
theorem sum_inSeg (s : Fin 32768 → BitVec 32) (b : ℕ) : ((List.range b).map (inSeg s)).sum = below s b := by
  induction b with
  | zero => rw [below_zero]; rfl
  | succ b ih => rw [List.range_succ, List.map_append, List.sum_append, ih, below_succ]; simp

/-- The running total through segment `b` is the number of rows of id at most `b`. -/
theorem totals (hs : Drawn (seg x1)) (b : Fin 16) : val_main_v17 (F := Ideal) x1 (ix1 b) = BitVec.ofNat 32 (below (seg x1) (b.val + 1)) := by
  rw [← sum_inSeg, ← ix1_eq b]
  unfold val_main_v17
  exact Routing.cumsum1 (by rfl) _ (inSeg (seg x1)) (fun i => (congrArg (val_main_v15 (F := Ideal) x1) (ix1_eq i)).trans (counts x1 hs i)) _ rfl _ _ b

/-- Segment `b` starts after the rows of smaller id. -/
theorem starts (hs : Drawn (seg x1)) (b : Fin 16) : val_main_v19 (F := Ideal) x1 (ix1 b) = BitVec.ofNat 32 (below (seg x1) b.val) := by
  pointwise [val_main_v19, val_main_v18, val_main_v16, val_main_c_4]
  by_cases h : b.val < 1
  · rw [dif_pos h, show b.val = 0 by omega, below_zero]
  · rw [dif_neg h, totals x1 hs]
    congr 2
    exact Nat.sub_add_cancel (by omega)

/-- Row `n`'s start is the number of rows of smaller id, when its id is one of the sixteen segments. -/
theorem starts_row (hs : Drawn (seg x1)) (n : Fin 32768) (h : (seg x1 n).toNat < 16) :
    val_main_v27 (F := Ideal) x1 (ix1 n) = BitVec.ofNat 32 (below (seg x1) (seg x1 n).toNat) := by
  have hb : val_main_v26 (F := Ideal) x1 (ValueIdx.ix2 n (0 : Fin 1)) = BitVec.ofNat 32 (⟨(seg x1 n).toNat, h⟩ : Fin 16).val := by
    rw [ix2_eq, lookIdx x1 hs n]
    exact (BitVec.ofNat_toNat 32 _).symm ▸ (by simp)
  rw [← ix1_eq n]
  unfold val_main_v27
  rw [Routing.gather_take1 gather_S16_S32768x1_S32768_n_0_n_n_0_1_1 rfl rfl rfl rfl _ _ n ⟨(seg x1 n).toNat, h⟩ hb (by omega), ix1_eq]
  exact starts x1 hs _

/-- The second index of the pair row `n` is placed at is its place in its segment, when its id is one of the sixteen. -/
theorem placeIdx (hs : Drawn (seg x1)) (n : Fin 32768) (h : (seg x1 n).toNat < 16) :
    val_main_v42 (F := Ideal) x1 (ix2 n 1) = BitVec.ofNat 32 (place (seg x1) n) := by
  have hsub : IntOp.subi (BitVec.ofNat 32 n.val) (BitVec.ofNat 32 (below (seg x1) (seg x1 n).toNat)) = BitVec.ofNat 32 (place (seg x1) n) := by
    have h1 := hs.below_le n
    have h2 := n.isLt
    unfold IntOp.subi place
    apply BitVec.eq_of_toNat_eq
    rw [BitVec.toNat_sub, BitVec.toNat_ofNat, BitVec.toNat_ofNat, BitVec.toNat_ofNat]
    omega
  pointwise [val_main_v42, val_main_v41, val_main_v39, val_main_v36, val_main_v38, val_main_v35, val_main_v37, val_main_v28, val_main_v20, val_main_c_10, val_main_c_11]
  rw [starts_row x1 hs n h, hsub]
  refine wrap_id _ _ ?_
  have h3 : place (seg x1) n < 4096 := hs.place_lt n
  rw [BitVec.toNat_ofNat]
  omega

end Cert.ReferenceIdeal.Rows

end
-- ==== Proof.RefPadded.lean ====
/-
  The reference's padded table: each segment's rows laid out at their places, zero elsewhere, and the mask of the places taken.
-/
module

public import proofs.«01_k».proof.Proof.RefPlaces

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Pooling

/-! ## Where a row lands, by the pair of words it is placed at -/

section lands
variable (idx : IVec S32768x2 32)

/-- The first word of row `n`'s pair is where its features start on the segment axis. -/
theorem rows_start0 (n : Fin 32768) (e : Fin 128) :
    scatter_S16x4096x128_S32768x2_S32768x128_1_01_01_1.start (ix2 n e) idx 0 = (idx (ix2 n 0)).toInt := by
  unfold ScatterDims.start
  rw [dif_pos (by decide)]
  refine congrArg (fun i => (idx i).toInt) (funext fun a => Fin.ext ?_)
  match a with
  | ⟨0, _⟩ => rfl
  | ⟨1, _⟩ => rfl

/-- The second word is where they start on the place axis. -/
theorem rows_start1 (n : Fin 32768) (e : Fin 128) :
    scatter_S16x4096x128_S32768x2_S32768x128_1_01_01_1.start (ix2 n e) idx 1 = (idx (ix2 n 1)).toInt := by
  unfold ScatterDims.start
  rw [dif_pos (by decide)]
  refine congrArg (fun i => (idx i).toInt) (funext fun a => Fin.ext ?_)
  match a with
  | ⟨0, _⟩ => rfl
  | ⟨1, _⟩ => rfl

/-- On the feature axis they start at zero. -/
theorem rows_start2 (n : Fin 32768) (e : Fin 128) :
    scatter_S16x4096x128_S32768x2_S32768x128_1_01_01_1.start (ix2 n e) idx 2 = 0 := by
  unfold ScatterDims.start
  rw [dif_neg (by decide)]

/-- An entry of a row stays at the row's start on the segment axis, -/
theorem rows_window0 (n : Fin 32768) (e : Fin 128) :
    scatter_S16x4096x128_S32768x2_S32768x128_1_01_01_1.window (ix2 n e) 0 = 0 := by
  unfold ScatterDims.window
  rw [dif_neg (by decide)]

/-- and on the place axis, -/
theorem rows_window1 (n : Fin 32768) (e : Fin 128) :
    scatter_S16x4096x128_S32768x2_S32768x128_1_01_01_1.window (ix2 n e) 1 = 0 := by
  unfold ScatterDims.window
  rw [dif_neg (by decide)]

/-- and entry `e` lies `e` after the start on the feature axis. -/
theorem rows_window2 (n : Fin 32768) (e : Fin 128) :
    scatter_S16x4096x128_S32768x2_S32768x128_1_01_01_1.window (ix2 n e) 2 = e.val := by
  unfold ScatterDims.window
  rw [dif_pos (by decide)]
  rfl

/-- Entry `e` of row `n` lands at `(b, p, d)` when the row's two words are `b` and `p` and `e` is `d`. -/
theorem rows_land (n : Fin 32768) (e : Fin 128) (b : Fin 16) (p : Fin 4096) (d : Fin 128) :
    scatter_S16x4096x128_S32768x2_S32768x128_1_01_01_1.resultIdx? (ix2 n e) idx = some (ix3 b p d)
      ↔ (idx (ix2 n 0)).toInt = (b.val : ℤ) ∧ (idx (ix2 n 1)).toInt = (p.val : ℤ) ∧ e = d := by
  rw [Routing.resultIdx?_eq_some]
  constructor
  · intro h
    have h0 := h 0
    have h1 := h 1
    have h2 := h 2
    rw [rows_start0, rows_window0] at h0
    rw [rows_start1, rows_window1] at h1
    rw [rows_start2, rows_window2] at h2
    have h0' : (idx (ix2 n 0)).toInt + ((0 : ℕ) : ℤ) = (b.val : ℤ) := h0
    have h1' : (idx (ix2 n 1)).toInt + ((0 : ℕ) : ℤ) = (p.val : ℤ) := h1
    have h2' : (0 : ℤ) + (e.val : ℤ) = (d.val : ℤ) := h2
    exact ⟨by omega, by omega, Fin.ext (by omega)⟩
  · rintro ⟨h0, h1, rfl⟩ a
    match a with
    | ⟨0, _⟩ =>
      refine (congrArg₂ (fun (u : ℤ) (v : ℕ) => u + (v : ℤ)) (rows_start0 idx n e) (rows_window0 n e)).trans ?_
      show (idx (ix2 n 0)).toInt + ((0 : ℕ) : ℤ) = (b.val : ℤ)
      omega
    | ⟨1, _⟩ =>
      refine (congrArg₂ (fun (u : ℤ) (v : ℕ) => u + (v : ℤ)) (rows_start1 idx n e) (rows_window1 n e)).trans ?_
      show (idx (ix2 n 1)).toInt + ((0 : ℕ) : ℤ) = (p.val : ℤ)
      omega
    | ⟨2, _⟩ =>
      refine (congrArg₂ (fun (u : ℤ) (v : ℕ) => u + (v : ℤ)) (rows_start2 idx n e) (rows_window2 n e)).trans ?_
      show (0 : ℤ) + (e.val : ℤ) = (e.val : ℤ)
      omega

/-- The first word of row `n`'s pair is the segment whose mask it marks. -/
theorem mask_start0 (n : Fin 32768) :
    scatter_S16x4096_S32768x2_S32768_n_01_01_1.start (ix1 n) idx 0 = (idx (ix2 n 0)).toInt := by
  unfold ScatterDims.start
  rw [dif_pos (by decide)]
  refine congrArg (fun i => (idx i).toInt) (funext fun a => Fin.ext ?_)
  match a with
  | ⟨0, _⟩ => rfl
  | ⟨1, _⟩ => rfl

/-- The second word is the place it marks. -/
theorem mask_start1 (n : Fin 32768) :
    scatter_S16x4096_S32768x2_S32768_n_01_01_1.start (ix1 n) idx 1 = (idx (ix2 n 1)).toInt := by
  unfold ScatterDims.start
  rw [dif_pos (by decide)]
  refine congrArg (fun i => (idx i).toInt) (funext fun a => Fin.ext ?_)
  match a with
  | ⟨0, _⟩ => rfl
  | ⟨1, _⟩ => rfl

/-- A mark has no extent on either axis. -/
theorem mask_window (n : Fin 32768) (a : Fin 2) :
    scatter_S16x4096_S32768x2_S32768_n_01_01_1.window (ix1 n) a = 0 := by
  unfold ScatterDims.window
  rw [dif_neg (by revert a; decide)]

/-- Row `n` marks place `(b, p)` when its two words are `b` and `p`. -/
theorem mask_land (n : Fin 32768) (b : Fin 16) (p : Fin 4096) :
    scatter_S16x4096_S32768x2_S32768_n_01_01_1.resultIdx? (ix1 n) idx = some (ix2 b p)
      ↔ (idx (ix2 n 0)).toInt = (b.val : ℤ) ∧ (idx (ix2 n 1)).toInt = (p.val : ℤ) := by
  rw [← ix2_eq b p, Routing.resultIdx?_ix2, mask_start0, mask_start1, mask_window, mask_window]
  constructor
  · rintro ⟨h0, h1⟩
    exact ⟨by omega, by omega⟩
  · rintro ⟨h0, h1⟩
    exact ⟨by omega, by omega⟩

end lands

/-! ## Over ids drawn in order -/

variable (x1 : IVec S32768 32)

/-- Row `n`'s two words are `b` and `p` exactly when its id is `b` and its place is `p`. -/
theorem pair_iff (hs : Drawn (seg x1)) (n : Fin 32768) (b : Fin 16) (p : Fin 4096) :
    ((val_main_v42 (F := Ideal) x1 (ix2 n 0)).toInt = (b.val : ℤ) ∧ (val_main_v42 (F := Ideal) x1 (ix2 n 1)).toInt = (p.val : ℤ))
      ↔ (seg x1 n).toNat = b.val ∧ place (seg x1) n = p.val := by
  rw [rowIdx x1 hs n, toInt_small _ (hs.small n)]
  have hp : (seg x1 n).toNat = b.val → (val_main_v42 (F := Ideal) x1 (ix2 n 1)).toInt = (place (seg x1) n : ℤ) := by
    intro h
    have h3 : place (seg x1) n < 4096 := hs.place_lt n
    rw [placeIdx x1 hs n (by omega), toInt_small _ (by rw [BitVec.toNat_ofNat]; omega), BitVec.toNat_ofNat]
    omega
  constructor
  · rintro ⟨h0, h1⟩
    have h0' : (seg x1 n).toNat = b.val := by omega
    rw [hp h0'] at h1
    exact ⟨h0', by omega⟩
  · rintro ⟨h0, h1⟩
    rw [hp h0]
    exact ⟨by omega, by omega⟩

variable (x0 : FVec Ideal S32768x128 .f32) (x2 : FVec Ideal S128x128 .f32) (x3 : FVec Ideal S128 .f32)

/-- The padded table holds row `n`'s features at the row's segment and place, -/
theorem padded_hit (hs : Drawn (seg x1)) (n : Fin 32768) (b : Fin 16) (p : Fin 4096) (d : Fin 128)
    (hb : (seg x1 n).toNat = b.val) (hp : place (seg x1) n = p.val) :
    val_main_v43 (F := Ideal) x0 x1 x2 x3 (ix3 b p d) = val_main_v5 (F := Ideal) x0 x2 x3 (ix2 n d) := by
  unfold val_main_v43
  refine Routing.scatter_set_hit _ _ _ _ _ _ (fun k hk => ?_) (ix2 n d) ?_
  · obtain ⟨n', d', rfl⟩ := ex_ix2 k
    obtain ⟨h0, h1, rfl⟩ := (rows_land _ n' d' b p d).mp hk
    obtain ⟨h2, h3⟩ := (pair_iff x1 hs n' b p).mp ⟨h0, h1⟩
    rw [hs.place_inj (n := n') (n' := n) (by rw [h2]; exact hb.symm) (by rw [h3, hp])]
  · have := (pair_iff x1 hs n b p).mpr ⟨hb, hp⟩
    exact (rows_land _ n d b p d).mpr ⟨this.1, this.2, rfl⟩

/-- and zero at a place where no row sits. -/
theorem padded_miss (hs : Drawn (seg x1)) (b : Fin 16) (p : Fin 4096) (d : Fin 128)
    (h : ∀ n, (seg x1 n).toNat = b.val → place (seg x1) n ≠ p.val) :
    val_main_v43 (F := Ideal) x0 x1 x2 x3 (ix3 b p d) = 0 := by
  unfold val_main_v43
  refine (Routing.scatter_set_miss _ _ _ _ _ (fun k hk => ?_)).trans ?_
  · obtain ⟨n', d', rfl⟩ := ex_ix2 k
    obtain ⟨h0, h1, rfl⟩ := (rows_land _ n' d' b p d).mp hk
    obtain ⟨h2, h3⟩ := (pair_iff x1 hs n' b p).mp ⟨h0, h1⟩
    exact h n' h2 h3
  · pointwise [val_main_v29, val_main_cst_7]

/-- The mask is one where a row sits, -/
theorem mask_hit (hs : Drawn (seg x1)) (n : Fin 32768) (b : Fin 16) (p : Fin 4096)
    (hb : (seg x1 n).toNat = b.val) (hp : place (seg x1) n = p.val) :
    val_main_v59 (F := Ideal) x1 (ix2 b p) = 1 := by
  unfold val_main_v59
  refine Routing.scatter_set_hit _ _ _ _ _ _ (fun k hk => ?_) (ix1 n) ?_
  · obtain ⟨n', rfl⟩ := ex_ix1 k
    pointwise [val_main_v58, val_main_cst_17]
  · have := (pair_iff x1 hs n b p).mpr ⟨hb, hp⟩
    rw [← pair_eq, ← pair_eq] at this
    exact (mask_land _ n b p).mpr this

/-- and zero where none does. -/
theorem mask_miss (hs : Drawn (seg x1)) (b : Fin 16) (p : Fin 4096)
    (h : ∀ n, (seg x1 n).toNat = b.val → place (seg x1) n ≠ p.val) :
    val_main_v59 (F := Ideal) x1 (ix2 b p) = 0 := by
  unfold val_main_v59
  refine (Routing.scatter_set_miss _ _ _ _ _ (fun k hk => ?_)).trans ?_
  · obtain ⟨n', rfl⟩ := ex_ix1 k
    have hl := (mask_land _ n' b p).mp hk
    rw [pair_eq, pair_eq] at hl
    obtain ⟨h2, h3⟩ := (pair_iff x1 hs n' b p).mp hl
    exact h n' h2 h3
  · pointwise [val_main_v44, val_main_cst_12]

end Cert.ReferenceIdeal.Rows

end
-- ==== Proof.RefMeans.lean ====
/-
  What the reference computes: over ids drawn in order and zero biases, the three segment means.
-/
module

public import proofs.«01_k».proof.Proof.RefPadded

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Pooling

/-- Dividing by a count raised to at least one is multiplying by its reciprocal. -/
theorem div_eq_mul (a t : EReal) : Ideal.div a (max t 1) = a * Ideal.div 1 (max t 1) := by
  have h : max t 1 ≠ 0 := fun e => absurd (e ▸ le_max_right t 1 : (1 : EReal) ≤ 0) (by norm_num)
  unfold Ideal.div
  rw [if_neg h, if_neg h, one_mul]

variable (x0 : FVec Ideal S32768x128 .f32) (x1 : IVec S32768 32) (x2 : FVec Ideal S128x128 .f32) (x3 : FVec Ideal S128 .f32)
  (x4 : FVec Ideal S128x128 .f32) (x5 : FVec Ideal S128 .f32) (x6 : FVec Ideal S128x128 .f32) (x7 : FVec Ideal S128 .f32)

/-- The features and weights of the reference, entry by entry. -/
abbrev mat {A B : ℕ} (x : FVec Ideal (⟨2, ![A, B]⟩ : Shape) .f32) (a : Fin A) (b : Fin B) : EReal := x (ix2 a b)

/-- The bits of zero are zero. -/
theorem zero_bits : (FloatOps.ofBits (F := Ideal) .f32 0x00000000#32 : EReal) = 0 := by
  show Ideal.ofBits .f32 0x00000000#32 = 0
  simp [Ideal.ofBits, Ideal.ieee]

/-- The encoded rows. -/
theorem encoded (h3 : ∀ i, x3 i = 0) (n : Fin 32768) (d : Fin 128) :
    val_main_v5 (F := Ideal) x0 x2 x3 (ix2 n d) = enc (mat x0) (mat x2) n d := by
  pointwise [val_main_v5, val_main_v4, val_main_v3, val_main_v2, val_main_v1, val_main_v0, enc, h3]
  exact congrArg (max _) zero_bits

/-- The count of segment `b`: the places its rows take. -/
theorem counted (hs : Drawn (seg x1)) (b : Fin 16) : val_main_v60 (F := Ideal) x1 (ix1 b) = tally (seg x1) b := by
  have hi : ∀ p : Fin 4096, idx_main_v60 (ix1 b) p = ix2 b p := fun p => funext fun a => match a with
    | ⟨0, _⟩ => rfl
    | ⟨1, _⟩ => rfl
  rw [val_main_v60_apply, val_main_cst_18_apply, zero_bits, zero_add, tally_eq]
  refine hs.sum_places (fun _ => 1) b _ (fun n p hb hp => ?_) (fun p h => ?_)
  · rw [hi, mask_hit x1 hs n b p hb hp]
  · rw [hi, mask_miss x1 hs b p h]

/-- The mask over the table, entry by entry. -/
theorem mask_at (b : Fin 16) (p : Fin 4096) (d : Fin 128) : val_main_v65 (F := Ideal) x1 (ix3 b p d) = val_main_v59 (F := Ideal) x1 (ix2 b p) := by
  pointwise [val_main_v65, val_main_v64]

/-- and the same mask again, over the heads. -/
theorem mask_at' (b : Fin 16) (p : Fin 4096) (d : Fin 128) : val_main_v76 (F := Ideal) x1 (ix3 b p d) = val_main_v59 (F := Ideal) x1 (ix2 b p) := by
  pointwise [val_main_v76, val_main_v75]

/-- The masked sum of the padded features is the segment's sum of encoded rows. -/
theorem summed_enc (hs : Drawn (seg x1)) (h3 : ∀ i, x3 i = 0) (b : Fin 16) (d : Fin 128) :
    val_main_v67 (F := Ideal) x0 x1 x2 x3 (ix2 b d) = pool (seg x1) (fun n => enc (mat x0) (mat x2) n d) b := by
  have hi : ∀ p : Fin 4096, idx_main_v67 (ix2 b d) p = ix3 b p d := fun p => funext fun a => match a with
    | ⟨0, _⟩ => rfl
    | ⟨1, _⟩ => rfl
    | ⟨2, _⟩ => rfl
  have hm : ∀ p : Fin 4096, val_main_v66 (F := Ideal) x0 x1 x2 x3 (ix3 b p d)
      = (val_main_v43 (F := Ideal) x0 x1 x2 x3 (ix3 b p d) : EReal) * val_main_v59 (F := Ideal) x1 (ix2 b p) := fun p =>
    (val_main_v66_apply (F := Ideal) x0 x1 x2 x3 _).trans (by rw [mask_at]; rfl)
  rw [val_main_v67_apply, val_main_cst_20_apply, zero_bits, zero_add]
  refine hs.sum_places (fun n => enc (mat x0) (mat x2) n d) b _ (fun n p hb hp => ?_) (fun p h => ?_)
  · rw [hi, hm, mask_hit x1 hs n b p hb hp, padded_hit x1 x0 x2 x3 hs n b p d hb hp, encoded x0 x2 x3 h3]
    exact mul_one _
  · rw [hi, hm, mask_miss x1 hs b p h]
    exact mul_zero _

/-- A head over the padded table: at a row's place, the row's head. -/
theorem headed (hs : Drawn (seg x1)) (h3 : ∀ i, x3 i = 0) (h5 : ∀ i, x5 i = 0) (n : Fin 32768) (b : Fin 16) (p : Fin 4096) (d : Fin 128)
    (hb : (seg x1 n).toNat = b.val) (hp : place (seg x1) n = p.val) :
    val_main_v74 (F := Ideal) x0 x1 x2 x3 x4 x5 (ix3 b p d) = head (mat x0) (mat x2) (mat x4) n d := by
  have hl : ∀ k : Fin 128, lidx_main_v70 (ix3 b p d) k = ix3 b p k := fun k => funext fun a => match a with
    | ⟨0, _⟩ => rfl
    | ⟨1, _⟩ => rfl
    | ⟨2, _⟩ => rfl
  have hr : ∀ k : Fin 128, ridx_main_v70 (ix3 b p d) k = ix2 k d := fun k => funext fun a => match a with
    | ⟨0, _⟩ => rfl
    | ⟨1, _⟩ => rfl
  have hdot : val_main_v70 (F := Ideal) x0 x1 x2 x3 x4 (ix3 b p d) = ∑ k : Fin 128, enc (mat x0) (mat x2) n k * mat x4 k d := by
    rw [val_main_v70_apply]
    refine Finset.sum_congr rfl fun k _ => ?_
    rw [hl, hr, padded_hit x1 x0 x2 x3 hs n b p k hb hp, encoded x0 x2 x3 h3]
  have hbias : val_main_v72 (F := Ideal) x5 (ix3 b p d) = (0 : EReal) := by
    pointwise [val_main_v72, val_main_v71, h5]
  have hadd : val_main_v73 (F := Ideal) x0 x1 x2 x3 x4 x5 (ix3 b p d)
      = (val_main_v70 (F := Ideal) x0 x1 x2 x3 x4 (ix3 b p d) : EReal) + val_main_v72 (F := Ideal) x5 (ix3 b p d) :=
    val_main_v73_apply (F := Ideal) x0 x1 x2 x3 x4 x5 _
  have ht : val_main_v74 (F := Ideal) x0 x1 x2 x3 x4 x5 (ix3 b p d) = Ideal.tanh (val_main_v73 (F := Ideal) x0 x1 x2 x3 x4 x5 (ix3 b p d)) :=
    (val_main_v74_apply (F := Ideal) x0 x1 x2 x3 x4 x5 _).trans (Ideal.hostUnary_tanh_def _)
  rw [ht, hadd, hdot, hbias, add_zero]
  rfl

/-- The masked sum of a head over the padded table is the segment's sum of the head over its rows. -/
theorem summed_head (hs : Drawn (seg x1)) (h3 : ∀ i, x3 i = 0) (h5 : ∀ i, x5 i = 0) (b : Fin 16) (d : Fin 128) :
    val_main_v78 (F := Ideal) x0 x1 x2 x3 x4 x5 (ix2 b d) = pool (seg x1) (fun n => head (mat x0) (mat x2) (mat x4) n d) b := by
  have hi : ∀ p : Fin 4096, idx_main_v78 (ix2 b d) p = ix3 b p d := fun p => funext fun a => match a with
    | ⟨0, _⟩ => rfl
    | ⟨1, _⟩ => rfl
    | ⟨2, _⟩ => rfl
  have hm : ∀ p : Fin 4096, val_main_v77 (F := Ideal) x0 x1 x2 x3 x4 x5 (ix3 b p d)
      = (val_main_v74 (F := Ideal) x0 x1 x2 x3 x4 x5 (ix3 b p d) : EReal) * val_main_v59 (F := Ideal) x1 (ix2 b p) := fun p =>
    (val_main_v77_apply (F := Ideal) x0 x1 x2 x3 x4 x5 _).trans (by rw [mask_at']; rfl)
  rw [val_main_v78_apply, val_main_cst_21_apply, zero_bits, zero_add]
  refine hs.sum_places (fun n => head (mat x0) (mat x2) (mat x4) n d) b _ (fun n p hb hp => ?_) (fun p h => ?_)
  · rw [hi, hm, mask_hit x1 hs n b p hb hp, headed x0 x1 x2 x3 x4 x5 hs h3 h5 n b p d hb hp]
    exact mul_one _
  · rw [hi, hm, mask_miss x1 hs b p h]
    exact mul_zero _

/-! ## The three results -/

/-- RESULT 1 OF THE REFERENCE: the segment means of the encoded rows. -/
theorem mean_enc (hs : Drawn (seg x1)) (h3 : ∀ i, x3 i = 0) (b : Fin 16) (d : Fin 128) :
    val_main_v69 (F := Ideal) x0 x1 x2 x3 (ix2 b d) = mean (seg x1) (fun n => enc (mat x0) (mat x2) n d) b := by
  pointwise [val_main_v69, val_main_v68, val_main_v63, val_main_v62, val_main_v61, val_main_cst_19]
  rw [summed_enc x0 x1 x2 x3 hs h3, counted x1 hs]
  exact div_eq_mul _ _

/-- RESULT 2 OF THE REFERENCE: the segment means of a head. -/
theorem mean_head (hs : Drawn (seg x1)) (h3 : ∀ i, x3 i = 0) (h5 : ∀ i, x5 i = 0) (b : Fin 16) (d : Fin 128) :
    val_main_v80 (F := Ideal) x0 x1 x2 x3 x4 x5 (ix2 b d) = mean (seg x1) (fun n => head (mat x0) (mat x2) (mat x4) n d) b := by
  pointwise [val_main_v80, val_main_v79, val_main_v63, val_main_v62, val_main_v61, val_main_cst_19]
  rw [summed_head x0 x1 x2 x3 x4 x5 hs h3 h5, counted x1 hs]
  exact div_eq_mul _ _

/-- RESULT 3 OF THE REFERENCE is result 2's function, at the other head's weights and bias. -/
theorem other_head : val_main_v91 (F := Ideal) x0 x1 x2 x3 x6 x7 = val_main_v80 (F := Ideal) x0 x1 x2 x3 x6 x7 := by
  unfold val_main_v91 val_main_v90 val_main_v89 val_main_v88 val_main_v87 val_main_v86 val_main_v85 val_main_v84 val_main_v83 val_main_v82 val_main_v81
  unfold val_main_v80 val_main_v79 val_main_v78 val_main_v77 val_main_v76 val_main_v75 val_main_v74 val_main_v73 val_main_v72 val_main_v71 val_main_v70
  rfl

end Cert.ReferenceIdeal.Rows

end
-- ==== Proof.Inputs.lean ====
/-
  The precondition, read: the ids are drawn in order, at most 4096 to a segment, and the three biases are zero.
-/
module

public import proofs.«01_k».proof.Defs
public import proofs.«01_k».proof.Proof.Segments
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Pre_pooled_as_drawn

open Cert.Pooling

/-- A word that is at least zero, read signed, is less than half its range, read unsigned. -/
theorem small_of_nonneg (w : BitVec 32) (h : IntOp.cmpi .sge w 0#32 = 1#1) : w.toNat < 2 ^ 31 := by
  rw [WordCmp.cmpi_sge_eq, WordCmp.ofBool_decide_eq_one_iff] at h
  have h0 : (0#32 : BitVec 32).toInt = 0 := by decide
  have hw := w.isLt
  rw [h0, BitVec.toInt_eq_toNat_cond] at h
  split at h <;> omega

/-- A float that compares equal to the zero constant is zero. -/
theorem zero_of_oeq (x : EReal) (h : FloatOps.cmpf (F := Ideal) (φ := .f32) .oeq x (0 : EReal) = 1#1) : x = 0 := by
  have h' : Ideal.cmp .oeq x 0 = 1#1 := h
  unfold Ideal.cmp at h'
  simpa [WordCmp.ofBool_decide_eq_one_iff] using h'

variable [Facts] (x0 : FVec Ideal S32768x128 .f32) (x1 : IVec S32768 32) (x2 : FVec Ideal S128x128 .f32) (x3 : FVec Ideal S128 .f32)
  (x4 : FVec Ideal S128x128 .f32) (x5 : FVec Ideal S128 .f32) (x6 : FVec Ideal S128x128 .f32) (x7 : FVec Ideal S128 .f32)

/-- The first three conditions say the ids are drawn in order. -/
theorem drawn (h1 : (fn (F := Ideal) x0 x1 x2 x3 x4 x5 x6 x7).1 = fun _ => 1#1)
    (h2 : (fn (F := Ideal) x0 x1 x2 x3 x4 x5 x6 x7).2.1 = fun _ => 1#1)
    (h3 : (fn (F := Ideal) x0 x1 x2 x3 x4 x5 x6 x7).2.2.1 = fun _ => 1#1) : Drawn fun n => x1 (ix1 n) := by
  have hsm : ∀ n, (x1 (ix1 n)).toNat < 2 ^ 31 := fun n => small_of_nonneg _ (by
    refine Eq.trans ?_ (congrFun h1 (ix1 n))
    pointwise [fn])
  have hi : ∀ n, (x1 (ix1 n)).toInt = ((x1 (ix1 n)).toNat : ℤ) := fun n => by
    have := hsm n
    rw [BitVec.toInt_eq_toNat_cond]
    omega
  refine ⟨hsm, fun i h => ?_, fun i h => ?_⟩
  · have hc : IntOp.cmpi .sle (x1 (ix1 ⟨i, by omega⟩)) (x1 (ix1 ⟨i + 1, h⟩)) = 1#1 := by
      refine Eq.trans ?_ (congrFun h2 (ix1 ⟨i, by omega⟩))
      pointwise [fn]
      exact congrArg (fun j => IntOp.cmpi .sle _ (x1 (ix1 j))) (Fin.ext (Nat.add_comm i 1))
    rw [WordCmp.cmpi_sle_eq, WordCmp.ofBool_decide_eq_one_iff, hi, hi] at hc
    exact_mod_cast hc
  · have hc : IntOp.cmpi .slt (x1 (ix1 ⟨i, by omega⟩)) (x1 (ix1 ⟨i + 4096, h⟩)) = 1#1 := by
      refine Eq.trans ?_ (congrFun h3 (ix1 ⟨i, by omega⟩))
      pointwise [fn]
      exact congrArg (fun j => IntOp.cmpi .slt _ (x1 (ix1 j))) (Fin.ext (Nat.add_comm i 4096))
    rw [WordCmp.cmpi_slt_eq, WordCmp.ofBool_decide_eq_one_iff, hi, hi] at hc
    exact_mod_cast hc

/-- The fourth says the encoder's bias is zero, -/
theorem bias3 (h : (fn (F := Ideal) x0 x1 x2 x3 x4 x5 x6 x7).2.2.2.1 = fun _ => 1#1) (i : S128.Idx) : x3 i = (0 : EReal) := by
  refine zero_of_oeq _ (Eq.trans ?_ (congrFun h i))
  idx_vars i
  pointwise [fn]

/-- the fifth the product head's, -/
theorem bias5 (h : (fn (F := Ideal) x0 x1 x2 x3 x4 x5 x6 x7).2.2.2.2.1 = fun _ => 1#1) (i : S128.Idx) : x5 i = (0 : EReal) := by
  refine zero_of_oeq _ (Eq.trans ?_ (congrFun h i))
  idx_vars i
  pointwise [fn]

/-- the sixth the reactant head's. -/
theorem bias7 (h : (fn (F := Ideal) x0 x1 x2 x3 x4 x5 x6 x7).2.2.2.2.2 = fun _ => 1#1) (i : S128.Idx) : x7 i = (0 : EReal) := by
  refine zero_of_oeq _ (Eq.trans ?_ (congrFun h i))
  idx_vars i
  pointwise [fn]

end Cert.Pre_pooled_as_drawn

end
-- ==== Proof.Equation.lean ====
/-
  The equation: on inputs of the precondition, each of the kernel's three result arrays holds what the reference's does.
-/
module

public import proofs.«01_k».proof.Proof.KernelMeans
public import proofs.«01_k».proof.Proof.RefMeans
public import proofs.«01_k».proof.Proof.Inputs

@[expose] public section

set_option maxRecDepth 16384

noncomputable section

open Idealize.ShloMosaic Idealize.ShloMosaic.TcCoe Idealize.SL.Sem

namespace Cert.Equation

open Cert.Pooling

variable (m : (ℓ : Loc Cert.KernelIdeal.nD Cert.KernelIdeal.τ Cert.KernelIdeal.sig) → Buf (Elt Ideal) ℓ) (c : Dev Cert.KernelIdeal.nD)

/-- The kernel's argument arrays, at their shapes. -/
abbrev a0 : FVec Ideal Cert.ReferenceIdeal.S32768x128 .f32 := m ((c.tc : Thread Cert.KernelIdeal.nD Cert.KernelIdeal.τ).loc Cert.KernelIdeal.main_arg0)
abbrev a1 : IVec Cert.ReferenceIdeal.S32768 32 := m ((c.tc : Thread Cert.KernelIdeal.nD Cert.KernelIdeal.τ).loc Cert.KernelIdeal.main_arg1)
abbrev a2 : FVec Ideal Cert.ReferenceIdeal.S128x128 .f32 := m ((c.tc : Thread Cert.KernelIdeal.nD Cert.KernelIdeal.τ).loc Cert.KernelIdeal.main_arg2)
abbrev a3 : FVec Ideal Cert.ReferenceIdeal.S128 .f32 := m ((c.tc : Thread Cert.KernelIdeal.nD Cert.KernelIdeal.τ).loc Cert.KernelIdeal.main_arg3)
abbrev a4 : FVec Ideal Cert.ReferenceIdeal.S128x128 .f32 := m ((c.tc : Thread Cert.KernelIdeal.nD Cert.KernelIdeal.τ).loc Cert.KernelIdeal.main_arg4)
abbrev a5 : FVec Ideal Cert.ReferenceIdeal.S128 .f32 := m ((c.tc : Thread Cert.KernelIdeal.nD Cert.KernelIdeal.τ).loc Cert.KernelIdeal.main_arg5)
abbrev a6 : FVec Ideal Cert.ReferenceIdeal.S128x128 .f32 := m ((c.tc : Thread Cert.KernelIdeal.nD Cert.KernelIdeal.τ).loc Cert.KernelIdeal.main_arg6)
abbrev a7 : FVec Ideal Cert.ReferenceIdeal.S128 .f32 := m ((c.tc : Thread Cert.KernelIdeal.nD Cert.KernelIdeal.τ).loc Cert.KernelIdeal.main_arg7)

variable [Cert.Pre_pooled_as_drawn.Facts] (hpre : Cert.Pre_KernelIdeal_pooled_as_drawn m)

include hpre in
/-- The precondition's ids are drawn in order. -/
theorem ids_drawn : Drawn (Cert.ReferenceIdeal.Rows.seg (a1 m c)) :=
  Cert.Pre_pooled_as_drawn.drawn _ _ _ _ _ _ _ _ (hpre c).1 (hpre c).2.1 (hpre c).2.2.1

include hpre in
/-- The encoder's bias is zero. -/
theorem bias3_zero (i : Cert.ReferenceIdeal.S128.Idx) : a3 m c i = (0 : EReal) :=
  Cert.Pre_pooled_as_drawn.bias3 _ _ _ _ _ _ _ _ (hpre c).2.2.2.1 i

include hpre in
/-- The product head's bias is zero. -/
theorem bias5_zero (i : Cert.ReferenceIdeal.S128.Idx) : a5 m c i = (0 : EReal) :=
  Cert.Pre_pooled_as_drawn.bias5 _ _ _ _ _ _ _ _ (hpre c).2.2.2.2.1 i

include hpre in
/-- The reactant head's bias is zero. -/
theorem bias7_zero (i : Cert.ReferenceIdeal.S128.Idx) : a7 m c i = (0 : EReal) :=
  Cert.Pre_pooled_as_drawn.bias7 _ _ _ _ _ _ _ _ (hpre c).2.2.2.2.2 i

include hpre in
/-- RESULT 1: the pooled embeddings. -/
theorem embeddings : (Cert.KernelIdeal.Value.G6 m c : Cert.ReferenceIdeal.S16x128.Idx → EReal)
    = Cert.ReferenceIdeal.Read.val_main_v69 (F := Ideal) (a0 m c) (a1 m c) (a2 m c) (a3 m c) := by
  funext i
  obtain ⟨b, d, rfl⟩ := Cert.ReferenceIdeal.Rows.ex_ix2 i
  rw [Cert.ReferenceIdeal.Rows.mean_enc _ _ _ _ (ids_drawn m c hpre) (bias3_zero m c hpre)]
  exact Cert.KernelIdeal.Value.result6 m c b d

include hpre in
/-- RESULT 2: the pooled product head. -/
theorem products : (Cert.KernelIdeal.Value.G7 m c : Cert.ReferenceIdeal.S16x128.Idx → EReal)
    = Cert.ReferenceIdeal.Read.val_main_v80 (F := Ideal) (a0 m c) (a1 m c) (a2 m c) (a3 m c) (a4 m c) (a5 m c) := by
  funext i
  obtain ⟨b, d, rfl⟩ := Cert.ReferenceIdeal.Rows.ex_ix2 i
  rw [Cert.ReferenceIdeal.Rows.mean_head _ _ _ _ _ _ (ids_drawn m c hpre) (bias3_zero m c hpre) (bias5_zero m c hpre)]
  exact Cert.KernelIdeal.Value.result7 m c b d

include hpre in
/-- RESULT 3: the pooled reactant head. -/
theorem reactants : (Cert.KernelIdeal.Value.G8 m c : Cert.ReferenceIdeal.S16x128.Idx → EReal)
    = Cert.ReferenceIdeal.Read.val_main_v91 (F := Ideal) (a0 m c) (a1 m c) (a2 m c) (a3 m c) (a6 m c) (a7 m c) := by
  funext i
  obtain ⟨b, d, rfl⟩ := Cert.ReferenceIdeal.Rows.ex_ix2 i
  rw [Cert.ReferenceIdeal.Rows.other_head, Cert.ReferenceIdeal.Rows.mean_head _ _ _ _ _ _ (ids_drawn m c hpre) (bias3_zero m c hpre) (bias7_zero m c hpre)]
  exact Cert.KernelIdeal.Value.result8 m c b d

end Cert.Equation

end
-- ==== Proof.lean ====
/-
  The proof of `Cert.Claim`: the kernel and the reference run and keep their arguments, and over the extended reals they
  compute the same three arrays on the inputs of the precondition. The frames of the kernel are the generated ones; the
  equation is in `Proof/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pooled_as_drawn
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore to leave at other than zero. -/
theorem reference_frame : quiescent_ReferenceIdeal (hReferenceIdeal := Cert.ReferenceIdeal.Gen.facts) := fun m g _ =>
  (θ_run _ _ _).mono (fun r h => ⟨fun c => (h c).2.2.2, sem_eq_zero_of_no_sems rfl r.2⟩)
    (Cert.ReferenceIdeal.Value.run (F := Ideal) m g)

/-- The kernel and the reference end with equal results on the precondition's inputs. -/
theorem equal_results : algebraic_KernelIdeal_ReferenceIdeal_pre_pooled_as_drawn (hKernelIdeal := Cert.KernelIdeal.Gen.facts)
    (hReferenceIdeal := Cert.ReferenceIdeal.Gen.facts) (hPre_pooled_as_drawn := Cert.Pre_pooled_as_drawn.Gen.facts) := by
  intro m g m' g' hpre hargs
  refine ⟨fun c => Cert.KernelIdeal.Value.G6 m c, fun c => Cert.KernelIdeal.Value.G7 m c, fun c => Cert.KernelIdeal.Value.G8 m c,
    Cert.KernelIdeal.Value.run m g, (θ_run _ _ _).mono (fun r h c => ?_) (Cert.ReferenceIdeal.Value.run (F := Ideal) m' g')⟩
  obtain ⟨e0, e1, e2, e3, e4, e5, e6, e7⟩ := hargs c
  refine ⟨(h c).1.trans ?_, (h c).2.1.trans ?_, (h c).2.2.1.trans ?_, (h c).2.2.2⟩
  · rw [Cert.ReferenceIdeal.Read.val_main_v69_eq, e0, e1, e2, e3]
    exact (Cert.Equation.embeddings m c hpre).symm
  · rw [Cert.ReferenceIdeal.Read.val_main_v80_eq, e0, e1, e2, e3, e4, e5]
    exact (Cert.Equation.products m c hpre).symm
  · rw [Cert.ReferenceIdeal.Read.val_main_v91_eq, e0, e1, e2, e3, e6, e7]
    exact (Cert.Equation.reactants m c hpre).symm

/-- All the claims: the three frames, the ideal program's reading of the kernel, and the equal results. -/
theorem claim : Cert.Claim := ⟨Cert.Kernel.Gen.facts, Cert.KernelIdeal.Gen.facts, Cert.ReferenceIdeal.Gen.facts, Cert.Pre_pooled_as_drawn.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  equal_results⟩

end Cert.Proof

end
